-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decodable [hPre_decodable : Cert.Pre_decodable.Facts] (m : (ℓ : Loc Cert.KernelIdeal.nD Cert.KernelIdeal.τ Cert.KernelIdeal.sig) → Buf (Elt Ideal) ℓ) : Prop :=
  ∀ c : Dev Cert.KernelIdeal.nD,
    (Cert.Pre_decodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decodable [hPre_decodable : Cert.Pre_decodable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decodable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decodable [hKernelIdeal : Cert.KernelIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decodable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decodable [hReferenceIdeal : Cert.ReferenceIdeal.Facts] [hPre_decodable : Cert.Pre_decodable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decodable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "c_frac" .f32 0x3F8293EE#32 ((8 * ((Real.sqrt 128)⁻¹ * (Real.log 2)⁻¹) : ℝ) : EReal)
  ∧ IdealRules.named_const.Statement Cert.KernelIdeal.κ "mask" .f32 0xF149F2CA#32 ⊥
  ∧ IdealRules.named_const.Statement Cert.KernelIdeal.κ "inv_max" .f32 0x3B124925#32 ((1 / 448 : ℝ) : EReal)
  ∧ IdealRules.named_const.Statement Cert.KernelIdeal.κ "log2_e" .f32 0x3FB8AA3B#32 (((Real.log 2)⁻¹ : ℝ) : EReal)

def preserves_Reference_ReferenceIdeal : Prop :=
  IdealRules.named_const.Statement Cert.ReferenceIdeal.κ "score_scale" .f32 0x3DB504F3#32 (((Real.sqrt 128)⁻¹ : ℝ) : EReal)
  ∧ IdealRules.named_const.Statement Cert.ReferenceIdeal.κ "inv_max" .f32 0x3B124925#32 ((1 / 448 : ℝ) : EReal)
  ∧ IdealRules.named_const.Statement Cert.ReferenceIdeal.κ "log2_e" .f32 0x3FB8AA3B#32 (((Real.log 2)⁻¹ : ℝ) : EReal)

def algebraic_KernelIdeal_ReferenceIdeal_pre_decodable [hKernelIdeal : Cert.KernelIdeal.Facts] [hReferenceIdeal : Cert.ReferenceIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decodable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_decodable : Cert.Pre_decodable.Facts),
    quiescent_Kernel (hKernel := hKernel)
    ∧ quiescent_KernelIdeal (hKernelIdeal := hKernelIdeal)
    ∧ quiescent_KernelIdeal_pre_decodable (hKernelIdeal := hKernelIdeal) (hPre_decodable := hPre_decodable)
    ∧ quiescent_ReferenceIdeal (hReferenceIdeal := hReferenceIdeal)
    ∧ quiescent_ReferenceIdeal_pre_decodable (hReferenceIdeal := hReferenceIdeal) (hPre_decodable := hPre_decodable)
    ∧ quiescent_Reference (hReference := hReference)
    ∧ preserves_Kernel_KernelIdeal
    ∧ preserves_Reference_ReferenceIdeal
    ∧ algebraic_KernelIdeal_ReferenceIdeal_pre_decodable (hKernelIdeal := hKernelIdeal) (hReferenceIdeal := hReferenceIdeal) (hPre_decodable := hPre_decodable)
-- ==== Pre_decodable.lean ====
abbrev S12x2048x24x128 : Shape := ⟨4, ![12, 2048, 24, 128]⟩
abbrev S12x2048x24x4 : Shape := ⟨4, ![12, 2048, 24, 4]⟩
abbrev S12x2048x8x128 : Shape := ⟨4, ![12, 2048, 8, 128]⟩
abbrev S12x2048x8x4 : Shape := ⟨4, ![12, 2048, 8, 4]⟩
abbrev S12x64x8x128 : Shape := ⟨4, ![12, 64, 8, 128]⟩
abbrev S_ : Shape := ⟨0, ![]⟩

class Facts : Prop where
  bcast_S_S12x2048x24x4 : S_.BroadcastsInDim S12x2048x24x4 (![] : Fin 0 → Fin S12x2048x24x4.rank)
  reducesTo_S12x2048x24x4_S_d0_1_2_3 : S12x2048x24x4.ReducesTo [0, 1, 2, 3] S_
  h_S_ : 0 < S_.numel
  bcast_S_S12x2048x8x4 : S_.BroadcastsInDim S12x2048x8x4 (![] : Fin 0 → Fin S12x2048x8x4.rank)
  reducesTo_S12x2048x8x4_S_d0_1_2_3 : S12x2048x8x4.ReducesTo [0, 1, 2, 3] S_
  bcast_S_S12x64x8x128 : S_.BroadcastsInDim S12x64x8x128 (![] : Fin 0 → Fin S12x64x8x128.rank)
  reducesTo_S12x64x8x128_S_d0_1_2_3 : S12x64x8x128.ReducesTo [0, 1, 2, 3] S_

variable [Facts]

def fn_part1 {F : FTy → Type} [FloatOps F] (main_arg5 : IVec S12x64x8x128 8) (main_v12 : IVec S_ 1) (main_v14 : IVec S12x64x8x128 1) (main_v15 : IVec S12x64x8x128 8) : IVec S_ 1 :=
  let main_v16 : IVec S12x64x8x128 1 := cmpi .ule main_arg5 main_v15
  let main_v17 : IVec S12x64x8x128 1 := andi main_v14 main_v16
  let main_c_7 : IVec S_ 1 := constantI S_ 1 1#1
  let main_v18 : IVec S_ 1 := (fun x v => Host.reduce IntOp.andi x v reducesTo_S12x64x8x128_S_d0_1_2_3 h_S_) main_v17 main_c_7
  let main_v19 : IVec S_ 1 := andi main_v12 main_v18
  main_v19

def fn {F : FTy → Type} [FloatOps F] (main_arg0 : IVec S12x2048x24x128 8) (main_arg1 : IVec S12x2048x24x4 8) (main_arg2 : IVec S12x2048x8x128 8) (main_arg3 : IVec S12x2048x8x4 8) (main_arg4 : IVec S12x2048x8x128 8) (main_arg5 : IVec S12x64x8x128 8) : IVec S_ 1 :=
  let main_c : IVec S_ 8 := constantI S_ 8 1#8
  let main_v0 : IVec S12x2048x24x4 8 := broadcastInDim S12x2048x24x4 ![] bcast_S_S12x2048x24x4 main_c
  let main_v1 : IVec S12x2048x24x4 1 := cmpi .uge main_arg1 main_v0
  let main_c_0 : IVec S_ 8 := constantI S_ 8 254#8
  let main_v2 : IVec S12x2048x24x4 8 := broadcastInDim S12x2048x24x4 ![] bcast_S_S12x2048x24x4 main_c_0
  let main_v3 : IVec S12x2048x24x4 1 := cmpi .ule main_arg1 main_v2
  let main_v4 : IVec S12x2048x24x4 1 := andi main_v1 main_v3
  let main_c_1 : IVec S_ 1 := constantI S_ 1 1#1
  let main_v5 : IVec S_ 1 := (fun x v => Host.reduce IntOp.andi x v reducesTo_S12x2048x24x4_S_d0_1_2_3 h_S_) main_v4 main_c_1
  let main_c_2 : IVec S_ 8 := constantI S_ 8 1#8
  let main_v6 : IVec S12x2048x8x4 8 := broadcastInDim S12x2048x8x4 ![] bcast_S_S12x2048x8x4 main_c_2
  let main_v7 : IVec S12x2048x8x4 1 := cmpi .uge main_arg3 main_v6
  let main_c_3 : IVec S_ 8 := constantI S_ 8 254#8
  let main_v8 : IVec S12x2048x8x4 8 := broadcastInDim S12x2048x8x4 ![] bcast_S_S12x2048x8x4 main_c_3
  let main_v9 : IVec S12x2048x8x4 1 := cmpi .ule main_arg3 main_v8
  let main_v10 : IVec S12x2048x8x4 1 := andi main_v7 main_v9
  let main_c_4 : IVec S_ 1 := constantI S_ 1 1#1
  let main_v11 : IVec S_ 1 := (fun x v => Host.reduce IntOp.andi x v reducesTo_S12x2048x8x4_S_d0_1_2_3 h_S_) main_v10 main_c_4
  let main_v12 : IVec S_ 1 := andi main_v5 main_v11
  let main_c_5 : IVec S_ 8 := constantI S_ 8 1#8
  let main_v13 : IVec S12x64x8x128 8 := broadcastInDim S12x64x8x128 ![] bcast_S_S12x64x8x128 main_c_5
  let main_v14 : IVec S12x64x8x128 1 := cmpi .uge main_arg5 main_v13
  let main_c_6 : IVec S_ 8 := constantI S_ 8 254#8
  let main_v15 : IVec S12x64x8x128 8 := broadcastInDim S12x64x8x128 ![] bcast_S_S12x64x8x128 main_c_6
  fn_part1 (F := F) main_arg5 main_v12 main_v14 main_v15
-- ==== Kernel.lean ====
abbrev S12x2048x24x128 : Shape := ⟨4, ![12, 2048, 24, 128]⟩
abbrev S12x2048x24x4 : Shape := ⟨4, ![12, 2048, 24, 4]⟩
abbrev S12x2048x8x128 : Shape := ⟨4, ![12, 2048, 8, 128]⟩
abbrev S12x2048x8x4 : Shape := ⟨4, ![12, 2048, 8, 4]⟩
abbrev S12x64x8x128 : Shape := ⟨4, ![12, 64, 8, 128]⟩
abbrev S12x24x2048x128 : Shape := ⟨4, ![12, 24, 2048, 128]⟩
abbrev S12x24x4x2048 : Shape := ⟨4, ![12, 24, 4, 2048]⟩
abbrev S12x8x8x32x8x128 : Shape := ⟨6, ![12, 8, 8, 32, 8, 128]⟩
abbrev S12x8x2048x128 : Shape := ⟨4, ![12, 8, 2048, 128]⟩
abbrev S12x8x8x32x8x4 : Shape := ⟨6, ![12, 8, 8, 32, 8, 4]⟩
abbrev S12x8x2048x4 : Shape := ⟨4, ![12, 8, 2048, 4]⟩
abbrev S12x8x4x2048 : Shape := ⟨4, ![12, 8, 4, 2048]⟩
abbrev S12x8x64x128 : Shape := ⟨4, ![12, 8, 64, 128]⟩
abbrev S12x2048x3072 : Shape := ⟨3, ![12, 2048, 3072]⟩
abbrev S1x1x2048x128 : Shape := ⟨4, ![1, 1, 2048, 128]⟩
abbrev S1x1x4x2048 : Shape := ⟨4, ![1, 1, 4, 2048]⟩
abbrev S1x1x64x128 : Shape := ⟨4, ![1, 1, 64, 128]⟩
abbrev S1x2048x128 : Shape := ⟨3, ![1, 2048, 128]⟩
abbrev S2048x256 : Shape := ⟨2, ![2048, 256]⟩
abbrev S128x2048 : Shape := ⟨2, ![128, 2048]⟩
abbrev S8x32x8x256 : Shape := ⟨4, ![8, 32, 8, 256]⟩
abbrev S8x8x256 : Shape := ⟨3, ![8, 8, 256]⟩
abbrev S1x1x4x256 : Shape := ⟨4, ![1, 1, 4, 256]⟩
abbrev S4x256 : Shape := ⟨2, ![4, 256]⟩
abbrev S1x256 : Shape := ⟨2, ![1, 256]⟩
abbrev S32x256 : Shape := ⟨2, ![32, 256]⟩
abbrev S128x256 : Shape := ⟨2, ![128, 256]⟩
abbrev S256x128 : Shape := ⟨2, ![256, 128]⟩
abbrev S1x1x256x128 : Shape := ⟨4, ![1, 1, 256, 128]⟩
abbrev S1x1x8x128 : Shape := ⟨4, ![1, 1, 8, 128]⟩
abbrev S8x128 : Shape := ⟨2, ![8, 128]⟩
abbrev S1x8x256 : Shape := ⟨3, ![1, 8, 256]⟩
abbrev S32x8x256 : Shape := ⟨3, ![32, 8, 256]⟩
abbrev S256x256 : Shape := ⟨2, ![256, 256]⟩
abbrev S8x256 : Shape := ⟨2, ![8, 256]⟩
abbrev S1x32x8x256 : Shape := ⟨4, ![1, 32, 8, 256]⟩
abbrev S256 : Shape := ⟨1, ![256]⟩
abbrev S1x256x128 : Shape := ⟨3, ![1, 256, 128]⟩

abbrev nBuf : Space → Nat
  | .hbm => 23
  | .vmem => 19
  | .smem => 0
  | _ => 0

abbrev bufTy : (tb : Table) → Fin (tcTables nBuf tb) → BufTy
  | .hbm, ⟨0, _⟩ => ⟨S12x2048x24x128, .i8⟩
  | .hbm, ⟨1, _⟩ => ⟨S12x2048x24x4, .i8⟩
  | .hbm, ⟨2, _⟩ => ⟨S12x2048x8x128, .i8⟩
  | .hbm, ⟨3, _⟩ => ⟨S12x2048x8x4, .i8⟩
  | .hbm, ⟨4, _⟩ => ⟨S12x2048x8x128, .i8⟩
  | .hbm, ⟨5, _⟩ => ⟨S12x64x8x128, .i8⟩
  | .hbm, ⟨6, _⟩ => ⟨S12x2048x24x128, .fp8e4m3⟩
  | .hbm, ⟨7, _⟩ => ⟨S12x2048x8x128, .fp8e4m3⟩
  | .hbm, ⟨8, _⟩ => ⟨S12x2048x8x128, .fp8e4m3⟩
  | .hbm, ⟨9, _⟩ => ⟨S12x24x2048x128, .fp8e4m3⟩
  | .hbm, ⟨10, _⟩ => ⟨S12x24x4x2048, .i8⟩
  | .hbm, ⟨11, _⟩ => ⟨S12x8x8x32x8x128, .fp8e4m3⟩
  | .hbm, ⟨12, _⟩ => ⟨S12x8x8x32x8x128, .fp8e4m3⟩
  | .hbm, ⟨13, _⟩ => ⟨S12x8x2048x128, .fp8e4m3⟩
  | .hbm, ⟨14, _⟩ => ⟨S12x8x8x32x8x4, .i8⟩
  | .hbm, ⟨15, _⟩ => ⟨S12x8x8x32x8x4, .i8⟩
  | .hbm, ⟨16, _⟩ => ⟨S12x8x2048x4, .i8⟩
  | .hbm, ⟨17, _⟩ => ⟨S12x8x4x2048, .i8⟩
  | .hbm, ⟨18, _⟩ => ⟨S12x8x8x32x8x128, .fp8e4m3⟩
  | .hbm, ⟨19, _⟩ => ⟨S12x8x8x32x8x128, .fp8e4m3⟩
  | .hbm, ⟨20, _⟩ => ⟨S12x8x2048x128, .fp8e4m3⟩
  | .hbm, ⟨21, _⟩ => ⟨S12x8x64x128, .i8⟩
  | .hbm, ⟨22, _⟩ => ⟨S12x2048x3072, .bf16⟩
  | .local _ .vmem, ⟨0, _⟩ => ⟨S1x1x2048x128, .fp8e4m3⟩
  | .local _ .vmem, ⟨1, _⟩ => ⟨S1x1x2048x128, .fp8e4m3⟩
  | .local _ .vmem, ⟨2, _⟩ => ⟨S1x1x4x2048, .i8⟩
  | .local _ .vmem, ⟨3, _⟩ => ⟨S1x1x4x2048, .i8⟩
  | .local _ .vmem, ⟨4, _⟩ => ⟨S1x1x2048x128, .fp8e4m3⟩
  | .local _ .vmem, ⟨5, _⟩ => ⟨S1x1x2048x128, .fp8e4m3⟩
  | .local _ .vmem, ⟨6, _⟩ => ⟨S1x1x4x2048, .i8⟩
  | .local _ .vmem, ⟨7, _⟩ => ⟨S1x1x4x2048, .i8⟩
  | .local _ .vmem, ⟨8, _⟩ => ⟨S1x1x2048x128, .fp8e4m3⟩
  | .local _ .vmem, ⟨9, _⟩ => ⟨S1x1x2048x128, .fp8e4m3⟩
  | .local _ .vmem, ⟨10, _⟩ => ⟨S1x1x64x128, .i8⟩
  | .local _ .vmem, ⟨11, _⟩ => ⟨S1x1x64x128, .i8⟩
  | .local _ .vmem, ⟨12, _⟩ => ⟨S1x2048x128, .bf16⟩
  | .local _ .vmem, ⟨13, _⟩ => ⟨S1x2048x128, .bf16⟩
  | .local _ .vmem, ⟨14, _⟩ => ⟨S2048x256, .bf16⟩
  | .local _ .vmem, ⟨15, _⟩ => ⟨S128x2048, .bf16⟩
  | .local _ .vmem, ⟨16, _⟩ => ⟨S8x32x8x256, .f32⟩
  | .local _ .vmem, ⟨17, _⟩ => ⟨S8x8x256, .f32⟩
  | .local _ .vmem, ⟨18, _⟩ => ⟨S8x8x256, .f32⟩
  | _, _ => ⟨S12x2048x24x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![12, 8, 3], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x1x2048x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "c_frac" => some ((8 * ((Real.sqrt 128)⁻¹ * (Real.log 2)⁻¹) : ℝ) : EReal)
  | "inv_max" => some ((1 / 448 : ℝ) : EReal)
  | "log2_e" => some (((Real.log 2)⁻¹ : ℝ) : EReal)
  | "mask" => some ⊥
  | _ => none
-- ==== ReferenceIdeal.lean ====
variable {F : FTy → Type} [FloatOps F] [Named F]
def κ : String → Option EReal := fun
  | "inv_max" => some ((1 / 448 : ℝ) : EReal)
  | "log2_e" => some (((Real.log 2)⁻¹ : ℝ) : EReal)
  | "score_scale" => some (((Real.sqrt 128)⁻¹ : ℝ) : EReal)
  | _ => none
-- ==== Reference.lean ====
abbrev S12x2048x24x128 : Shape := ⟨4, ![12, 2048, 24, 128]⟩
abbrev S12x2048x24x4 : Shape := ⟨4, ![12, 2048, 24, 4]⟩
abbrev S12x2048x8x128 : Shape := ⟨4, ![12, 2048, 8, 128]⟩
abbrev S12x2048x8x4 : Shape := ⟨4, ![12, 2048, 8, 4]⟩
abbrev S12x64x8x128 : Shape := ⟨4, ![12, 64, 8, 128]⟩
abbrev S12x2048x24x1x128 : Shape := ⟨5, ![12, 2048, 24, 1, 128]⟩
abbrev S12x24x2048x128 : Shape := ⟨4, ![12, 24, 2048, 128]⟩
abbrev S288x2048x128 : Shape := ⟨3, ![288, 2048, 128]⟩
abbrev S12x2048x24x4x32 : Shape := ⟨5, ![12, 2048, 24, 4, 32]⟩
abbrev S12x2048x8x3x128 : Shape := ⟨5, ![12, 2048, 8, 3, 128]⟩
abbrev S12x2048x8x4x32 : Shape := ⟨5, ![12, 2048, 8, 4, 32]⟩
abbrev S12x64x32x8x128 : Shape := ⟨5, ![12, 64, 32, 8, 128]⟩
abbrev S288x2048x2048 : Shape := ⟨3, ![288, 2048, 2048]⟩
abbrev S288x2048 : Shape := ⟨2, ![288, 2048]⟩
abbrev S288x2048x1 : Shape := ⟨3, ![288, 2048, 1]⟩
abbrev S288x2048x64x32 : Shape := ⟨4, ![288, 2048, 64, 32]⟩
abbrev S288x2048x64 : Shape := ⟨3, ![288, 2048, 64]⟩
abbrev S288x2048x64x1 : Shape := ⟨4, ![288, 2048, 64, 1]⟩
abbrev S12x2048x3072 : Shape := ⟨3, ![12, 2048, 3072]⟩

abbrev nBuf : Space → Nat
  | .hbm => 43
  | .vmem => 7
  | .smem => 0
  | _ => 0

abbrev bufTy : (tb : Table) → Fin (tcTables nBuf tb) → BufTy
  | .hbm, ⟨0, _⟩ => ⟨S12x2048x24x128, .i8⟩
  | .hbm, ⟨1, _⟩ => ⟨S12x2048x24x4, .i8⟩
  | .hbm, ⟨2, _⟩ => ⟨S12x2048x8x128, .i8⟩
  | .hbm, ⟨3, _⟩ => ⟨S12x2048x8x4, .i8⟩
  | .hbm, ⟨4, _⟩ => ⟨S12x2048x8x128, .i8⟩
  | .hbm, ⟨5, _⟩ => ⟨S12x64x8x128, .i8⟩
  | .hbm, ⟨6, _⟩ => ⟨S12x2048x24x128, .fp8e4m3⟩
  | .hbm, ⟨7, _⟩ => ⟨S12x2048x8x128, .fp8e4m3⟩
  | .hbm, ⟨8, _⟩ => ⟨S12x2048x8x128, .fp8e4m3⟩
  | .hbm, ⟨9, _⟩ => ⟨S12x2048x24x1x128, .fp8e4m3⟩
  | .hbm, ⟨10, _⟩ => ⟨S12x2048x24x128, .fp8e4m3⟩
  | .hbm, ⟨11, _⟩ => ⟨S12x24x2048x128, .fp8e4m3⟩
  | .hbm, ⟨12, _⟩ => ⟨S288x2048x128, .fp8e4m3⟩
  | .hbm, ⟨13, _⟩ => ⟨S12x2048x24x4x32, .i8⟩
  | .hbm, ⟨14, _⟩ => ⟨S12x2048x24x128, .i8⟩
  | .hbm, ⟨15, _⟩ => ⟨S12x2048x24x1x128, .i8⟩
  | .hbm, ⟨16, _⟩ => ⟨S12x2048x24x128, .i8⟩
  | .hbm, ⟨17, _⟩ => ⟨S12x24x2048x128, .i8⟩
  | .hbm, ⟨18, _⟩ => ⟨S288x2048x128, .i8⟩
  | .hbm, ⟨19, _⟩ => ⟨S12x2048x8x3x128, .fp8e4m3⟩
  | .hbm, ⟨20, _⟩ => ⟨S12x2048x24x128, .fp8e4m3⟩
  | .hbm, ⟨21, _⟩ => ⟨S12x24x2048x128, .fp8e4m3⟩
  | .hbm, ⟨22, _⟩ => ⟨S288x2048x128, .fp8e4m3⟩
  | .hbm, ⟨23, _⟩ => ⟨S12x2048x8x4x32, .i8⟩
  | .hbm, ⟨24, _⟩ => ⟨S12x2048x8x128, .i8⟩
  | .hbm, ⟨25, _⟩ => ⟨S12x2048x8x3x128, .i8⟩
  | .hbm, ⟨26, _⟩ => ⟨S12x2048x24x128, .i8⟩
  | .hbm, ⟨27, _⟩ => ⟨S12x24x2048x128, .i8⟩
  | .hbm, ⟨28, _⟩ => ⟨S288x2048x128, .i8⟩
  | .hbm, ⟨29, _⟩ => ⟨S12x2048x8x3x128, .fp8e4m3⟩
  | .hbm, ⟨30, _⟩ => ⟨S12x2048x24x128, .fp8e4m3⟩
  | .hbm, ⟨31, _⟩ => ⟨S12x24x2048x128, .fp8e4m3⟩
  | .hbm, ⟨32, _⟩ => ⟨S288x2048x128, .fp8e4m3⟩
  | .hbm, ⟨33, _⟩ => ⟨S12x64x32x8x128, .i8⟩
  | .hbm, ⟨34, _⟩ => ⟨S12x2048x8x128, .i8⟩
  | .hbm, ⟨35, _⟩ => ⟨S12x2048x8x3x128, .i8⟩
  | .hbm, ⟨36, _⟩ => ⟨S12x2048x24x128, .i8⟩
  | .hbm, ⟨37, _⟩ => ⟨S12x24x2048x128, .i8⟩
  | .hbm, ⟨38, _⟩ => ⟨S288x2048x128, .i8⟩
  | .hbm, ⟨39, _⟩ => ⟨S288x2048x128, .bf16⟩
  | .hbm, ⟨40, _⟩ => ⟨S12x24x2048x128, .bf16⟩
  | .hbm, ⟨41, _⟩ => ⟨S12x2048x24x128, .bf16⟩
  | .hbm, ⟨42, _⟩ => ⟨S12x2048x3072, .bf16⟩
  | .local _ .vmem, ⟨0, _⟩ => ⟨S288x2048x128, .fp8e4m3⟩
  | .local _ .vmem, ⟨1, _⟩ => ⟨S288x2048x128, .i8⟩
  | .local _ .vmem, ⟨2, _⟩ => ⟨S288x2048x128, .fp8e4m3⟩
  | .local _ .vmem, ⟨3, _⟩ => ⟨S288x2048x128, .i8⟩
  | .local _ .vmem, ⟨4, _⟩ => ⟨S288x2048x128, .fp8e4m3⟩
  | .local _ .vmem, ⟨5, _⟩ => ⟨S288x2048x128, .i8⟩
  | .local _ .vmem, ⟨6, _⟩ => ⟨S288x2048x128, .bf16⟩
  | _, _ => ⟨S12x2048x24x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S288x2048x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x2048x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x2048x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S288x2048x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x2048x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x2048x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Names.lean ====
module

public import proofs.«01_k».proof.Defs

@[expose] public section

/-! The named constants stand for the words they replace. -/

namespace Cert.Names

open Idealize.ShloMosaic

/-- The kernel's idealization only names rounded constants: each named constant is the real its word rounds,
    and the mask's word is minus infinity. -/
theorem preserves_kernel : Cert.preserves_Kernel_KernelIdeal :=
  ⟨IdealRules.named_const.statement Cert.KernelIdeal.κ "c_frac" .f32 0x3F8293EE#32 _ rfl,
   IdealRules.named_const.statement Cert.KernelIdeal.κ "mask" .f32 0xF149F2CA#32 _ rfl,
   IdealRules.named_const.statement Cert.KernelIdeal.κ "inv_max" .f32 0x3B124925#32 _ rfl,
   IdealRules.named_const.statement Cert.KernelIdeal.κ "log2_e" .f32 0x3FB8AA3B#32 _ rfl⟩

/-- The reference's idealization only names rounded constants: each named constant is the real its word rounds. -/
theorem preserves_reference : Cert.preserves_Reference_ReferenceIdeal :=
  ⟨IdealRules.named_const.statement Cert.ReferenceIdeal.κ "score_scale" .f32 0x3DB504F3#32 _ rfl,
   IdealRules.named_const.statement Cert.ReferenceIdeal.κ "inv_max" .f32 0x3B124925#32 _ rfl,
   IdealRules.named_const.statement Cert.ReferenceIdeal.κ "log2_e" .f32 0x3FB8AA3B#32 _ rfl⟩

end Cert.Names

end
-- ==== Proof.Tile.lean ====
module

public import proofs.«01_k».proof.Proof.Gen.KernelIdeal.Skeleton
public import Idealize.ShloMosaic.Lib.Pointwise

/-!
One tile of the kernel: 256 queries of one head against `n + 1` chunks of 256 keys, in the kernel's own operations and for any number
of chunks. A chunk's scores are laid out `[32, 8, 256]`: place in the block of 32 keys, block of the chunk, query.
-/

@[expose] public section

noncomputable section

namespace Cert.Tile

open Idealize.ShloMosaic Cert.KernelIdeal Cert.KernelIdeal.Gen

variable {F : FTy → Type} [FloatOps F] [Named F]

/-- The scores of a chunk of keys against the tile's queries. -/
def scores (q k : FVec F S256x256 .bf16) : FVec F S32x8x256 .f32 :=
  shapeCast S32x8x256 (matmul dot_S256x256_S256x256_S256x256_1_0_0_1_n_n none k q (constant S256x256 .f32 0x00000000#32))
    shapeCasts_S256x256_S32x8x256

/-- The scores of the chunk on the diagonal, the later keys masked. -/
def masked (s : FVec F S32x8x256 .f32) : FVec F S32x8x256 .f32 :=
  select k0_pay54 s (broadcast S32x8x256 (Named.named κ "mask" 0xF149F2CA#32))

/-- The largest score of every block. -/
def top (s : FVec F S32x8x256 .f32) : FVec F S8x256 .f32 :=
  multiReduction .maximumf [0] S8x256 s 0xFF800000#32 reduces_S32x8x256_S8x256 (.inl rfl) rfl

/-- The exponentials of every block, against the block's largest score. -/
def terms (s : FVec F S32x8x256 .f32) : FVec F S32x8x256 .f32 :=
  exp2 (subf s (broadcastTo S32x8x256 (shapeCast S1x8x256 (top s) shapeCasts_S8x256_S1x8x256) broadcasts_S1x8x256_S32x8x256))

/-- The sum of every block's exponentials. -/
def total (s : FVec F S32x8x256 .f32) : FVec F S8x256 .f32 :=
  multiReduction .add [0] S8x256 (terms s) 0x00000000#32 reduces_S32x8x256_S8x256 (.inl rfl) rfl

/-- A value of every block, stored and read back. -/
def kept (x : FVec F S8x256 .f32) : FVec F S8x256 .f32 :=
  shapeCast S8x256 (shapeCast S1x8x256 x shapeCasts_S8x256_S1x8x256) shapeCasts_S1x8x256_S8x256

/-- A value of every key, stored and read back. -/
def keptAll (x : FVec F S32x8x256 .f32) : FVec F S32x8x256 .f32 :=
  shapeCast S32x8x256 (shapeCast S1x32x8x256 x shapeCasts_S32x8x256_S1x32x8x256) shapeCasts_S1x32x8x256_S32x8x256

/-- The largest value of every query over eight blocks. -/
def peak (x : FVec F S8x256 .f32) : FVec F S1x256 .f32 :=
  shapeCast S1x256 (multiReduction .maximumf [0] S256 x 0xFF800000#32 reduces_S8x256_S256 (.inl rfl) rfl) shapeCasts_S256_S1x256

/-- What a block's exponentials are to be scaled by: the block's largest score is `t`, the query's is `p`. -/
def weight (t : FVec F S8x256 .f32) (p : FVec F S1x256 .f32) : FVec F S8x256 .f32 :=
  exp2 (subf t (broadcastTo S8x256 p broadcasts_S1x256_S8x256))

/-- One over the softmax's denominator, the sum of `x` over eight blocks. -/
def recip (x : FVec F S8x256 .f32) : FVec F S1x256 .f32 :=
  divf (broadcast S1x256 (Scalar.ofBits .f32 0x3F800000#32))
    (shapeCast S1x256 (multiReduction .add [0] S256 x 0x00000000#32 reduces_S8x256_S256 (.inl rfl) rfl) shapeCasts_S256_S1x256)

/-- The largest probability of every block. -/
def share (w : FVec F S8x256 .f32) (r : FVec F S1x256 .f32) : FVec F S8x256 .f32 :=
  mulf w (broadcastTo S8x256 r broadcasts_S1x256_S8x256)

/-- The exponent of every block: the floor of the base 2 logarithm of its largest probability over 448, and at
least -127. -/
def expo (a : FVec F S8x256 .f32) : FVec F S8x256 .f32 :=
  maximumf (floor (mulf (log (mulf a (broadcast S8x256 (Named.named κ "inv_max" 0x3B124925#32))))
    (broadcast S8x256 (Named.named κ "log2_e" 0x3FB8AA3B#32)))) (broadcast S8x256 (Scalar.ofBits .f32 0xC2FE0000#32))

/-- The factor that takes a block's exponentials to its codes. -/
def down (a : FVec F S8x256 .f32) : FVec F S8x256 .f32 :=
  minimumf (mulf a (exp2 (subf (broadcast S8x256 (Scalar.ofBits .f32 0xBF800000#32)) (expo a))))
    (broadcast S8x256 (Scalar.ofBits .f32 0x43E00000#32))

/-- The factor that takes a block's codes to its probabilities. -/
def up (a : FVec F S8x256 .f32) : FVec F S8x256 .f32 :=
  exp2 (addf (expo a) (broadcast S8x256 (Scalar.ofBits .f32 0x3F800000#32)))

/-- The factor of every block, repeated for the block's 32 keys. -/
def spread (x : FVec F S8x256 .f32) : FVec F S256x256 .f32 :=
  concatenate S256x256 0 [⟨S8x256, x⟩, ⟨S8x256, x⟩, ⟨S8x256, x⟩, ⟨S8x256, x⟩, ⟨S8x256, x⟩, ⟨S8x256, x⟩, ⟨S8x256, x⟩, ⟨S8x256, x⟩,
    ⟨S8x256, x⟩, ⟨S8x256, x⟩, ⟨S8x256, x⟩, ⟨S8x256, x⟩, ⟨S8x256, x⟩, ⟨S8x256, x⟩, ⟨S8x256, x⟩, ⟨S8x256, x⟩,
    ⟨S8x256, x⟩, ⟨S8x256, x⟩, ⟨S8x256, x⟩, ⟨S8x256, x⟩, ⟨S8x256, x⟩, ⟨S8x256, x⟩, ⟨S8x256, x⟩, ⟨S8x256, x⟩,
    ⟨S8x256, x⟩, ⟨S8x256, x⟩, ⟨S8x256, x⟩, ⟨S8x256, x⟩, ⟨S8x256, x⟩, ⟨S8x256, x⟩, ⟨S8x256, x⟩, ⟨S8x256, x⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- A chunk's probabilities: the codes, from the exponentials `u`, times the factor of their block, from its largest probability `a`. -/
def probs (a : FVec F S8x256 .f32) (u : FVec F S32x8x256 .f32) : FVec F S256x256 .bf16 :=
  mulf
    (extf .bf16
      (truncf .fp8e4m3
        (shapeCast S256x256
          (mulf u
            (broadcastTo S32x8x256 (shapeCast S1x8x256 (down a) shapeCasts_S8x256_S1x8x256) broadcasts_S1x8x256_S32x8x256))
          shapeCasts_S32x8x256_S256x256)
        bitsLt_fp8e4m3_f32)
      bitsLt_fp8e4m3_bf16)
    (truncf .bf16 (spread (up a)) bitsLt_bf16_f32)

/-- What one chunk adds to the tile's result. -/
def part (v : FVec F S128x256 .bf16) (a : FVec F S8x256 .f32) (u : FVec F S32x8x256 .f32) : FVec F S128x256 .f32 :=
  matmul dot_S128x256_S256x256_S128x256_1_0_0_1_n_n none v (probs a u) (constant S128x256 .f32 0x00000000#32)

/-- The tile's result stored, a query per row. -/
def rows (x : FVec F S128x256 .f32) : FVec F S1x256x128 .bf16 :=
  shapeCast S1x256x128
    (truncf .bf16 (transpose S256x128 [1, 0] x transposes_S128x256_p1_0_S256x128) bitsLt_bf16_f32)
    shapeCasts_S256x128_S1x256x128

/-! ## Over the chunks -/

/-- The largest scores over the chunks `0 … n`, place by place. -/
def tops (s : ℕ → FVec F S32x8x256 .f32) : ℕ → FVec F S8x256 .f32
  | 0 => kept (top (s 0))
  | n + 1 => maximumf (tops s n) (kept (top (s (n + 1))))

/-- What the blocks of chunk `c` are to be scaled by, of the chunks `0 … n`. -/
def weights (s : ℕ → FVec F S32x8x256 .f32) (n c : ℕ) : FVec F S8x256 .f32 :=
  weight (kept (top (s c))) (peak (tops s n))

/-- The scaled sums over the chunks `0 … k`, place by place. -/
def sums (s : ℕ → FVec F S32x8x256 .f32) (n : ℕ) : ℕ → FVec F S8x256 .f32
  | 0 => mulf (kept (total (s 0))) (weights s n 0)
  | k + 1 => addf (sums s n k) (mulf (kept (total (s (k + 1)))) (weights s n (k + 1)))

/-- The largest probabilities of the blocks of chunk `c`, of the chunks `0 … n`. -/
def shares (s : ℕ → FVec F S32x8x256 .f32) (n c : ℕ) : FVec F S8x256 .f32 :=
  share (weights s n c) (recip (sums s n n))

/-- The chunks `0 … k` added up. -/
def parts (s : ℕ → FVec F S32x8x256 .f32) (v : ℕ → FVec F S128x256 .bf16) (n : ℕ) : ℕ → FVec F S128x256 .f32
  | 0 => part (v 0) (shares s n 0) (keptAll (terms (s 0)))
  | k + 1 => addf (parts s v n k) (part (v (k + 1)) (shares s n (k + 1)) (keptAll (terms (s (k + 1)))))

/-! ## A head -/

/-- 256 rows of the keys, from row `o`. -/
def keyRows (k2 : Vec F S2048x256 .bf16) (o : ℕ) : FVec F S256x256 .bf16 :=
  fun x => k2 (ix2 ⟨(o + (x 0).val) % 2048, Nat.mod_lt _ (by decide)⟩ ⟨(x 1).val, (x 1).isLt⟩)

/-- 256 columns of the transposed values, from column `o`. -/
def valueCols (vt : Vec F S128x2048 .bf16) (o : ℕ) : FVec F S128x256 .bf16 :=
  fun x => vt (ix2 ⟨(x 0).val, (x 0).isLt⟩ ⟨(o + (x 1).val) % 2048, Nat.mod_lt _ (by decide)⟩)

/-- 256 rows of the query codes, from row `o`. -/
def queryRows (q : Vec F S1x1x2048x128 .fp8e4m3) (o : ℕ) : Vec F S1x1x256x128 .fp8e4m3 :=
  fun x => q (ix4 0 0 ⟨(o + (x 2).val) % 2048, Nat.mod_lt _ (by decide)⟩ ⟨(x 3).val, (x 3).isLt⟩)

/-- 256 columns of the query scales, from column `o`. -/
def scaleCols (qs : Vec F S1x1x4x2048 .i8) (o : ℕ) : Vec F S1x1x4x256 .i8 :=
  fun x => qs (ix4 0 0 ⟨(x 2).val, (x 2).isLt⟩ ⟨(o + (x 3).val) % 2048, Nat.mod_lt _ (by decide)⟩)

/-- The tile's queries times their scales, transposed and stacked twice. -/
def queries (q : Vec F S1x1x2048x128 .fp8e4m3) (qs : Vec F S1x1x4x2048 .i8) (i : ℕ) : FVec F S256x256 .bf16 :=
  k0_pay55 (queryRows q (256 * i)) (scaleCols qs (256 * i))

/-- The scores of chunk `c` in tile `i`: masked when it is the last. -/
def chunk (q : Vec F S1x1x2048x128 .fp8e4m3) (qs : Vec F S1x1x4x2048 .i8) (k2 : Vec F S2048x256 .bf16) (i c : ℕ) : FVec F S32x8x256 .f32 :=
  if c = i then masked (scores (queries q qs i) (keyRows k2 (256 * c))) else scores (queries q qs i) (keyRows k2 (256 * c))

/-- Tile `i` of a head: queries `256 i … 256 i + 255` against the keys up to them. -/
def tile (q : Vec F S1x1x2048x128 .fp8e4m3) (qs : Vec F S1x1x4x2048 .i8) (k2 : Vec F S2048x256 .bf16) (vt : Vec F S128x2048 .bf16) (i : ℕ) :
    FVec F S1x256x128 .bf16 :=
  rows (parts (chunk q qs k2 i) (fun c => valueCols vt (256 * c)) i i)

/-- A head's whole result. -/
def head (q : Vec F S1x1x2048x128 .fp8e4m3) (qs : Vec F S1x1x4x2048 .i8) (k2 : Vec F S2048x256 .bf16) (vt : Vec F S128x2048 .bf16) :
    Vec F S1x2048x128 .bf16 :=
  fun y => tile q qs k2 vt ((y 1).val / 256) (ix3 0 ⟨(y 1).val % 256, Nat.mod_lt _ (by decide)⟩ ⟨(y 2).val, (y 2).isLt⟩)

end Cert.Tile

end
-- ==== Proof.Walk.lean ====
module

public import proofs.«01_k».proof.Proof.Gen.KernelIdeal.Frame
public import proofs.«01_k».proof.Proof.Tile
public import Idealize.ShloMosaic.Lib.Pipeline.ValueKit
public import Idealize.ShloMosaic.Lib.Pipeline.ReadBack

@[expose] public section

set_option maxRecDepth 65536
set_option maxHeartbeats 0

noncomputable section

/-! What the kernel's body stores at a head, as the functions of `Tile`. -/

namespace Cert.Walk
open Idealize.ShloMosaic Idealize.SL.Sem Cert.KernelIdeal Cert.KernelIdeal.Gen Cert.Tile

variable {F : FTy → Type} [FloatOps F] [Named F]

/-- A load of 256 rows of the key scratch. -/
theorem ld_keyRows (X : Vec F S2048x256 .bf16) (o : ℕ) (inb) : View.ld X (Rect.unit ![o, 0] (no_index S256x256.size) inb) = keyRows X o := by
  have h : o + 256 ≤ 2048 := inb 0
  funext x
  show X _ = X _
  congr 1
  funext a
  apply Fin.ext
  match a with
  | 0 => have := (x 0).isLt; rw [Rect.idx_unit_val]; show o + (x 0).val = (o + (x 0).val) % 2048; have : (x 0).val < 256 := (x 0).isLt; omega
  | 1 => rw [Rect.idx_unit_val]; show 0 + (x 1).val = (x 1).val; omega

/-- A load of 256 columns of the value scratch. -/
theorem ld_valueCols (X : Vec F S128x2048 .bf16) (o : ℕ) (inb) : View.ld X (Rect.unit ![0, o] (no_index S128x256.size) inb) = valueCols X o := by
  have h : o + 256 ≤ 2048 := inb 1
  funext x
  show X _ = X _
  congr 1
  funext a
  apply Fin.ext
  match a with
  | 1 => rw [Rect.idx_unit_val]; show o + (x 1).val = (o + (x 1).val) % 2048; have : (x 1).val < 256 := (x 1).isLt; omega
  | 0 => rw [Rect.idx_unit_val]; show 0 + (x 0).val = (x 0).val; omega

/-- A load of 256 rows of the query codes. -/
theorem ld_queryRows (X : Vec F S1x1x2048x128 .fp8e4m3) (o : ℕ) (inb) : View.ld X (Rect.unit ![0, 0, o, 0] (no_index S1x1x256x128.size) inb) = queryRows X o := by
  have h : o + 256 ≤ 2048 := inb 2
  funext x
  show X _ = X _
  congr 1
  funext a
  apply Fin.ext
  match a with
  | 0 => rw [Rect.idx_unit_val]; show 0 + (x 0).val = 0; have : (x 0).val < 1 := (x 0).isLt; omega
  | 1 => rw [Rect.idx_unit_val]; show 0 + (x 1).val = 0; have : (x 1).val < 1 := (x 1).isLt; omega
  | 2 => rw [Rect.idx_unit_val]; show o + (x 2).val = (o + (x 2).val) % 2048; have : (x 2).val < 256 := (x 2).isLt; omega
  | 3 => rw [Rect.idx_unit_val]; show 0 + (x 3).val = (x 3).val; omega

/-- A load of 256 columns of the query scales. -/
theorem ld_scaleCols (X : Vec F S1x1x4x2048 .i8) (o : ℕ) (inb) : View.ld X (Rect.unit ![0, 0, 0, o] (no_index S1x1x4x256.size) inb) = scaleCols X o := by
  have h : o + 256 ≤ 2048 := inb 3
  funext x
  show X _ = X _
  congr 1
  funext a
  apply Fin.ext
  match a with
  | 0 => rw [Rect.idx_unit_val]; show 0 + (x 0).val = 0; have : (x 0).val < 1 := (x 0).isLt; omega
  | 1 => rw [Rect.idx_unit_val]; show 0 + (x 1).val = 0; have : (x 1).val < 1 := (x 1).isLt; omega
  | 2 => rw [Rect.idx_unit_val]; show 0 + (x 2).val = (x 2).val; omega
  | 3 => rw [Rect.idx_unit_val]; show o + (x 3).val = (o + (x 3).val) % 2048; have : (x 3).val < 256 := (x 3).isLt; omega

/-- A head holds, at each of its eight tiles of rows, what that tile computes. -/
theorem head_at (q : Vec F S1x1x2048x128 .fp8e4m3) (qs : Vec F S1x1x4x2048 .i8) (k2 : Vec F S2048x256 .bf16) (vt : Vec F S128x2048 .bf16)
    (i : ℕ) (y : S1x2048x128.Idx) (x : S1x256x128.Idx) (h1 : (y 1).val = 256 * i + (x 1).val) (h2 : (y 2).val = (x 2).val) :
    head q qs k2 vt y = tile q qs k2 vt i x := by
  have l0 : (x 0).val < 1 := (x 0).isLt
  have l1 : (x 1).val < 256 := (x 1).isLt
  unfold head
  rw [show (y 1).val / 256 = i by omega]
  congr 1
  rw [eq_ix3 x]
  congr 1 <;> apply Fin.ext <;> show _ = _
  · show 0 = (x 0).val; omega
  · show (y 1).val % 256 = (x 1).val; omega
  · exact h2

/-! The operations of the kernel, read as the functions of a tile. -/

section Fold

variable (s : FVec F S32x8x256 .f32) (x t a w : FVec F S8x256 .f32) (p : FVec F S1x256 .f32) (q k : FVec F S256x256 .bf16) (v : FVec F S128x256 .bf16)

/-- The program text of `scores`. -/
theorem fold_scores : shapeCast S32x8x256 (matmul dot_S256x256_S256x256_S256x256_1_0_0_1_n_n none k q (constant S256x256 .f32 0x00000000#32))
    shapeCasts_S256x256_S32x8x256 = scores q k := rfl

/-- The program text of `masked`. -/
theorem fold_masked : select (cmpi .sge (broadcastTo S32x8x256 (subi (iota .tc S1x8x256 32 (no_index [2]) iota_S1x8x256_d2_w32) (muli (iota .tc S1x8x256 32 (no_index [1]) iota_S1x8x256_d1_w32)
    (broadcast S1x8x256 32#32))) broadcasts_S1x8x256_S32x8x256) (iota .tc S32x8x256 32 (no_index [0]) iota_S32x8x256_d0_w32)) s (broadcast S32x8x256 (Named.named κ "mask" 0xF149F2CA#32)) = masked s := rfl

/-- The program text of `top`. -/
theorem fold_top : multiReduction .maximumf (no_index [0]) S8x256 s 0xFF800000#32 reduces_S32x8x256_S8x256 (.inl rfl) rfl = top s := rfl

/-- The program text of `terms`. -/
theorem fold_terms : exp2 (subf s (broadcastTo S32x8x256 (shapeCast S1x8x256 (top s) shapeCasts_S8x256_S1x8x256)
    broadcasts_S1x8x256_S32x8x256)) = terms s := rfl

/-- The program text of `total`. -/
theorem fold_total : multiReduction .add (no_index [0]) S8x256 (terms s) 0x00000000#32 reduces_S32x8x256_S8x256 (.inl rfl) rfl = total s := rfl

/-- The program text of `kept`. -/
theorem fold_kept : shapeCast S8x256 (shapeCast S1x8x256 x shapeCasts_S8x256_S1x8x256) shapeCasts_S1x8x256_S8x256 = kept x := rfl

/-- The program text of `keptAll`. -/
theorem fold_keptAll : shapeCast S32x8x256 (shapeCast S1x32x8x256 s shapeCasts_S32x8x256_S1x32x8x256) shapeCasts_S1x32x8x256_S32x8x256 = keptAll s := rfl

/-- The program text of `peak`. -/
theorem fold_peak : shapeCast S1x256 (multiReduction .maximumf (no_index [0]) S256 x 0xFF800000#32 reduces_S8x256_S256 (.inl rfl) rfl)
    shapeCasts_S256_S1x256 = peak x := rfl

/-- The program text of `weight`. -/
theorem fold_weight : exp2 (subf t (broadcastTo S8x256 p broadcasts_S1x256_S8x256)) = weight t p := rfl

/-- The program text of `recip`. -/
theorem fold_recip : divf (broadcast S1x256 (Scalar.ofBits .f32 0x3F800000#32))
    (shapeCast S1x256 (multiReduction .add (no_index [0]) S256 x 0x00000000#32 reduces_S8x256_S256 (.inl rfl) rfl) shapeCasts_S256_S1x256) = recip x := rfl

/-- The program text of `share`. -/
theorem fold_share : mulf w (broadcastTo S8x256 p broadcasts_S1x256_S8x256) = share w p := rfl

/-- The program text of `expo`. -/
theorem fold_expo : maximumf (floor (mulf (log (mulf a (broadcast S8x256 (Named.named κ "inv_max" 0x3B124925#32))))
    (broadcast S8x256 (Named.named κ "log2_e" 0x3FB8AA3B#32)))) (broadcast S8x256 (Scalar.ofBits .f32 0xC2FE0000#32)) = expo a := rfl

/-- The program text of `down`. -/
theorem fold_down : minimumf (mulf a (exp2 (subf (broadcast S8x256 (Scalar.ofBits .f32 0xBF800000#32)) (expo a))))
    (broadcast S8x256 (Scalar.ofBits .f32 0x43E00000#32)) = down a := rfl

/-- The program text of `up`. -/
theorem fold_up : exp2 (addf (expo a) (broadcast S8x256 (Scalar.ofBits .f32 0x3F800000#32))) = up a := rfl

/-- The program text of `part`. -/
theorem fold_part : matmul dot_S128x256_S256x256_S128x256_1_0_0_1_n_n none v
  (mulf
    (extf .bf16
      (truncf .fp8e4m3
        (shapeCast S256x256
          (mulf s
            (broadcastTo S32x8x256 (shapeCast S1x8x256 (down a) shapeCasts_S8x256_S1x8x256) broadcasts_S1x8x256_S32x8x256))
          shapeCasts_S32x8x256_S256x256)
        bitsLt_fp8e4m3_f32)
      bitsLt_fp8e4m3_bf16)
    (truncf .bf16 (spread (up a)) bitsLt_bf16_f32)) (constant S128x256 .f32 0x00000000#32) = part v a s := rfl

/-- The program text of `rows`. -/
theorem fold_rows (x : FVec F S128x256 .f32) : shapeCast S1x256x128
    (truncf .bf16 (transpose S256x128 (no_index [1, 0]) x transposes_S128x256_p1_0_S256x128) bitsLt_bf16_f32)
    shapeCasts_S256x128_S1x256x128 = rows x := rfl

end Fold

/-- A vector stacked on itself. -/
def twice (x : FVec F S128x256 .bf16) : FVec F S256x256 .bf16 :=
  concatenate S256x256 0 [⟨S128x256, x⟩, ⟨S128x256, x⟩] concatenates_S128x256_S128x256_S256x256_d0

/-- The scales of 256 queries, a row for each of the 128 lanes. -/
def lanes (y : FVec F S4x256 .f32) : FVec F S128x256 .f32 :=
  concatenate S128x256 0
    [⟨S32x256, broadcastTo S32x256 (shapeCast S1x256 (extractStridedSlice S1x256 ![0, 0] y slices_S4x256_o0_0_S1x256) shapeCasts_S1x256_S1x256) broadcasts_S1x256_S32x256⟩,
     ⟨S32x256, broadcastTo S32x256 (shapeCast S1x256 (extractStridedSlice S1x256 ![1, 0] y slices_S4x256_o1_0_S1x256) shapeCasts_S1x256_S1x256) broadcasts_S1x256_S32x256⟩,
     ⟨S32x256, broadcastTo S32x256 (shapeCast S1x256 (extractStridedSlice S1x256 ![2, 0] y slices_S4x256_o2_0_S1x256) shapeCasts_S1x256_S1x256) broadcasts_S1x256_S32x256⟩,
     ⟨S32x256, broadcastTo S32x256 (shapeCast S1x256 (extractStridedSlice S1x256 ![3, 0] y slices_S4x256_o3_0_S1x256) shapeCasts_S1x256_S1x256) broadcasts_S1x256_S32x256⟩]
    concatenates_S32x256_S32x256_S32x256_S32x256_S128x256_d0

/-- The program text of `twice`. -/
theorem fold_twice (x : FVec F S128x256 .bf16) :
    concatenate S256x256 0 [⟨S128x256, x⟩, ⟨S128x256, x⟩] concatenates_S128x256_S128x256_S256x256_d0 = twice x := rfl

/-- The program text of `lanes`. -/
theorem fold_lanes (y : FVec F S4x256 .f32) : concatenate S128x256 0
    [⟨S32x256, broadcastTo S32x256 (shapeCast S1x256 (extractStridedSlice S1x256 (no_index ![0, 0]) y slices_S4x256_o0_0_S1x256) shapeCasts_S1x256_S1x256) broadcasts_S1x256_S32x256⟩,
     ⟨S32x256, broadcastTo S32x256 (shapeCast S1x256 (extractStridedSlice S1x256 (no_index ![1, 0]) y slices_S4x256_o1_0_S1x256) shapeCasts_S1x256_S1x256) broadcasts_S1x256_S32x256⟩,
     ⟨S32x256, broadcastTo S32x256 (shapeCast S1x256 (extractStridedSlice S1x256 (no_index ![2, 0]) y slices_S4x256_o2_0_S1x256) shapeCasts_S1x256_S1x256) broadcasts_S1x256_S32x256⟩,
     ⟨S32x256, broadcastTo S32x256 (shapeCast S1x256 (extractStridedSlice S1x256 (no_index ![3, 0]) y slices_S4x256_o3_0_S1x256) shapeCasts_S1x256_S1x256) broadcasts_S1x256_S32x256⟩]
    concatenates_S32x256_S32x256_S32x256_S32x256_S128x256_d0 = lanes y := rfl

/-- The program text of `queries`. -/
theorem fold_queries (v11 : Vec F S1x1x256x128 .fp8e4m3) (v15 : Vec F S1x1x4x256 .i8) :
    twice
        (mulf
          (transpose S128x256 (no_index [1, 0]) (extf .bf16 (shapeCast S256x128 v11 shapeCasts_S1x1x256x128_S256x128) bitsLt_fp8e4m3_bf16)
            transposes_S256x128_p1_0_S128x256)
          (mulf
            (truncf .bf16
              (lanes (bitcastToFloat .f32 (shli (extui 32 (shapeCast S4x256 v15 shapeCasts_S1x1x4x256_S4x256) natLt_8_32) (broadcast S4x256 23#32))))
              bitsLt_bf16_f32)
            (broadcast S128x256 (FloatOps.ofBits FTy.bf16 15872#16)))) = k0_pay55 v11 v15 := rfl

/-- The program text of `spread`. -/
theorem fold_spread (x : FVec F S8x256 .f32) :
  concatenate S256x256 0 [⟨S8x256, x⟩, ⟨S8x256, x⟩, ⟨S8x256, x⟩, ⟨S8x256, x⟩, ⟨S8x256, x⟩, ⟨S8x256, x⟩, ⟨S8x256, x⟩, ⟨S8x256, x⟩,
    ⟨S8x256, x⟩, ⟨S8x256, x⟩, ⟨S8x256, x⟩, ⟨S8x256, x⟩, ⟨S8x256, x⟩, ⟨S8x256, x⟩, ⟨S8x256, x⟩, ⟨S8x256, x⟩,
    ⟨S8x256, x⟩, ⟨S8x256, x⟩, ⟨S8x256, x⟩, ⟨S8x256, x⟩, ⟨S8x256, x⟩, ⟨S8x256, x⟩, ⟨S8x256, x⟩, ⟨S8x256, x⟩,
    ⟨S8x256, x⟩, ⟨S8x256, x⟩, ⟨S8x256, x⟩, ⟨S8x256, x⟩, ⟨S8x256, x⟩, ⟨S8x256, x⟩, ⟨S8x256, x⟩, ⟨S8x256, x⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0 = spread x := rfl

variable (c : Dev nD) (g : grid0.Coords)
  (a3 : Memref sig .tc .vmem S1x1x2048x128 .fp8e4m3) (h3 : a3.IsWhole)
  (a4 : Memref sig .tc .vmem S1x1x4x2048 .i8) (h4 : a4.IsWhole)
  (a5 : Memref sig .tc .vmem S1x1x2048x128 .fp8e4m3) (h5 : a5.IsWhole)
  (a6 : Memref sig .tc .vmem S1x1x4x2048 .i8) (h6 : a6.IsWhole)
  (a7 : Memref sig .tc .vmem S1x1x2048x128 .fp8e4m3) (h7 : a7.IsWhole)
  (a8 : Memref sig .tc .vmem S1x1x64x128 .i8) (h8 : a8.IsWhole)
  (a9 : Memref sig .tc .vmem S1x2048x128 .bf16) (h9 : a9.IsWhole)
  (a10 : Memref sig .tc .vmem S2048x256 .bf16) (h10 : a10.IsWhole)
  (a11 : Memref sig .tc .vmem S128x2048 .bf16) (h11 : a11.IsWhole)
  (a12 : Memref sig .tc .vmem S8x32x8x256 .f32) (h12 : a12.IsWhole)
  (a13 : Memref sig .tc .vmem S8x8x256 .f32) (h13 : a13.IsWhole)
  (a14 : Memref sig .tc .vmem S8x8x256 .f32) (h14 : a14.IsWhole)
  (x0 : Vec F S1x1x2048x128 .fp8e4m3) (x1 : Vec F S1x1x4x2048 .i8) (x2 : Vec F S1x1x2048x128 .fp8e4m3) (x3 : Vec F S1x1x4x2048 .i8)
  (x4 : Vec F S1x1x2048x128 .fp8e4m3) (x5 : Vec F S1x1x64x128 .i8) (k2 : Vec F S2048x256 .bf16) (vt : Vec F S128x2048 .bf16)

set_option backward.isDefEq.respectTransparency false in
/-- A step that is not the first of its group stores the head of the scratch it finds. -/
theorem out_B (hc) : out0_B_6 c g a3 h3 a4 h4 a5 h5 a6 h6 a7 h7 a8 h8 a9 h9 a10 h10 a11 h11 a12 h12 a13 h13 a14 h14 hc x0 x1 x2 x3 x4 x5 k2 vt = head x0 x1 k2 vt := by
  have e3 : View.read (Elt F) a3.view (h3.unread x0) = x0 := h3.read_unread x0
  have e4 : View.read (Elt F) a4.view (h4.unread x1) = x1 := h4.read_unread x1
  have e10 : View.read (Elt F) a10.view (h10.unread k2) = k2 := h10.read_unread k2
  have e11 : View.read (Elt F) a11.view (h11.unread vt) = vt := h11.read_unread vt
  unfold out0_B_6
  rw [View.read_writes_junk_eq_canon]
  frame_open
  simp (disch := decide) only [↓View.readCov_cons_toLoadRect, ↓View.readCov_skip, View.readAt_eq_ld, e3, e4, e10, e11, ld_keyRows, ld_valueCols, ld_queryRows, ld_scaleCols]
  funext y
  canon_tiles y h
  all_goals
    first
      | refine Eq.trans ?_ (head_at x0 x1 k2 vt 0 _ y (by omega) (by omega)).symm
      | refine Eq.trans ?_ (head_at x0 x1 k2 vt 1 _ y (by omega) (by omega)).symm
      | refine Eq.trans ?_ (head_at x0 x1 k2 vt 2 _ y (by omega) (by omega)).symm
      | refine Eq.trans ?_ (head_at x0 x1 k2 vt 3 _ y (by omega) (by omega)).symm
      | refine Eq.trans ?_ (head_at x0 x1 k2 vt 4 _ y (by omega) (by omega)).symm
      | refine Eq.trans ?_ (head_at x0 x1 k2 vt 5 _ y (by omega) (by omega)).symm
      | refine Eq.trans ?_ (head_at x0 x1 k2 vt 6 _ y (by omega) (by omega)).symm
      | refine Eq.trans ?_ (head_at x0 x1 k2 vt 7 _ y (by omega) (by omega)).symm
    refine congrFun ?_ _
    clear h0 h1 h2 y0_lt y1_lt y2_lt y
    unfold_payloads
    repeat simp (disch := decide) only [↓View.readCov_cons_toLoadRect, ↓View.readCov_skip, View.readAt_eq_ld, e3, e4, e10, e11, ld_keyRows, ld_valueCols, ld_queryRows, ld_scaleCols, fold_scores, fold_masked, fold_top, fold_terms, fold_total, fold_kept, fold_keptAll, fold_peak, fold_weight, fold_recip, fold_share, fold_expo, fold_down, fold_up, fold_spread, fold_part, fold_rows, fold_twice, fold_lanes, fold_queries]
    try rw [fold_queries]
    simp only [tile, parts, shares, sums, weights, tops, chunk, queries, reduceIte, OfNat.ofNat_ne_zero, OfNat.zero_ne_ofNat, OfNat.one_ne_ofNat, OfNat.ofNat_ne_one, zero_ne_one, one_ne_zero, Nat.reduceEqDiff, Nat.reduceMul, Nat.reduceAdd, zero_add]

/-- A load after stores reads what they leave. -/
theorem cov_ld {sig' : RefSig} {κ : Kind} {sp : Space} {s : Shape} {e : EltTy} (v : View sig' κ sp s e) (L : List (View.Piece (Elt F) s e)) (r : Rect s) :
    v.readCov L r.toLoadRect = View.ld (View.canon L) r := by
  rw [View.readCov_eq_canon']

set_option backward.isDefEq.respectTransparency false in
/-- What a filling program leaves in its result. -/
theorem out_A (hc) : out0_A_6 c g a3 h3 a4 h4 a5 h5 a6 h6 a7 h7 a8 h8 a9 h9 a10 h10 a11 h11 a12 h12 a13 h13 a14 h14 hc x0 x1 x2 x3 x4 x5
    = head x0 x1 (sout0_A_0 c g a3 h3 a4 h4 a5 h5 a6 h6 a7 h7 a8 h8 a9 h9 a10 h10 a11 h11 a12 h12 a13 h13 a14 h14 hc x0 x1 x2 x3 x4 x5) (sout0_A_1 c g a3 h3 a4 h4 a5 h5 a6 h6 a7 h7 a8 h8 a9 h9 a10 h10 a11 h11 a12 h12 a13 h13 a14 h14 hc x0 x1 x2 x3 x4 x5) := by
  have e3 : View.read (Elt F) a3.view (h3.unread x0) = x0 := h3.read_unread x0
  have e4 : View.read (Elt F) a4.view (h4.unread x1) = x1 := h4.read_unread x1
  have c10 : ∀ r : Rect S2048x256, a10.view.readCov (kernelRun0_A c g a3 h3 a4 h4 a5 h5 a6 h6 a7 h7 a8 h8 a9 h9 a10 h10 a11 h11 a12 h12 a13 h13 a14 h14 hc x0 x1 x2 x3 x4 x5).2.1 r.toLoadRect
      = View.ld (sout0_A_0 c g a3 h3 a4 h4 a5 h5 a6 h6 a7 h7 a8 h8 a9 h9 a10 h10 a11 h11 a12 h12 a13 h13 a14 h14 hc x0 x1 x2 x3 x4 x5) r := fun r => by
    rw [cov_ld, sout0_A_0, View.read_writes_junk_eq_canon]
  have c11 : ∀ r : Rect S128x2048, a11.view.readCov (kernelRun0_A c g a3 h3 a4 h4 a5 h5 a6 h6 a7 h7 a8 h8 a9 h9 a10 h10 a11 h11 a12 h12 a13 h13 a14 h14 hc x0 x1 x2 x3 x4 x5).2.2.1 r.toLoadRect
      = View.ld (sout0_A_1 c g a3 h3 a4 h4 a5 h5 a6 h6 a7 h7 a8 h8 a9 h9 a10 h10 a11 h11 a12 h12 a13 h13 a14 h14 hc x0 x1 x2 x3 x4 x5) r := fun r => by
    rw [cov_ld, sout0_A_1, View.read_writes_junk_eq_canon]
  unfold out0_A_6
  rw [View.read_writes_junk_eq_canon]
  revert c10 c11
  generalize sout0_A_0 c g a3 h3 a4 h4 a5 h5 a6 h6 a7 h7 a8 h8 a9 h9 a10 h10 a11 h11 a12 h12 a13 h13 a14 h14 hc x0 x1 x2 x3 x4 x5 = K2
  generalize sout0_A_1 c g a3 h3 a4 h4 a5 h5 a6 h6 a7 h7 a8 h8 a9 h9 a10 h10 a11 h11 a12 h12 a13 h13 a14 h14 hc x0 x1 x2 x3 x4 x5 = VT
  frame_open
  intro c10 c11
  simp only [↓c10, ↓c11]
  simp (disch := decide) only [↓View.readCov_cons_toLoadRect a12.view, ↓View.readCov_skip a12.view, ↓View.readCov_cons_toLoadRect a13.view, ↓View.readCov_skip a13.view, ↓View.readCov_cons_toLoadRect a14.view, ↓View.readCov_skip a14.view, View.readAt_eq_ld, e3, e4, ld_keyRows, ld_valueCols, ld_queryRows, ld_scaleCols] at c10 c11 ⊢
  funext y
  canon_tiles y h
  all_goals
    first
      | refine Eq.trans ?_ (head_at x0 x1 K2 VT 0 _ y (by omega) (by omega)).symm
      | refine Eq.trans ?_ (head_at x0 x1 K2 VT 1 _ y (by omega) (by omega)).symm
      | refine Eq.trans ?_ (head_at x0 x1 K2 VT 2 _ y (by omega) (by omega)).symm
      | refine Eq.trans ?_ (head_at x0 x1 K2 VT 3 _ y (by omega) (by omega)).symm
      | refine Eq.trans ?_ (head_at x0 x1 K2 VT 4 _ y (by omega) (by omega)).symm
      | refine Eq.trans ?_ (head_at x0 x1 K2 VT 5 _ y (by omega) (by omega)).symm
      | refine Eq.trans ?_ (head_at x0 x1 K2 VT 6 _ y (by omega) (by omega)).symm
      | refine Eq.trans ?_ (head_at x0 x1 K2 VT 7 _ y (by omega) (by omega)).symm
    refine congrFun ?_ _
    clear h0 h1 h2 y0_lt y1_lt y2_lt y
    revert c10 c11
    unfold_payloads
    intro c10 c11
    repeat
      simp (disch := decide) only [↓View.readCov_cons_toLoadRect a12.view, ↓View.readCov_skip a12.view, ↓View.readCov_cons_toLoadRect a13.view, ↓View.readCov_skip a13.view, ↓View.readCov_cons_toLoadRect a14.view, ↓View.readCov_skip a14.view, View.readAt_eq_ld, e3, e4, ld_keyRows, ld_valueCols, ld_queryRows, ld_scaleCols, fold_scores, fold_masked, fold_top, fold_terms, fold_total, fold_kept, fold_keptAll, fold_peak, fold_weight, fold_recip, fold_share, fold_expo, fold_down, fold_up, fold_spread, fold_part, fold_rows, fold_twice, fold_lanes, fold_queries] at c10 c11 ⊢
    repeat
      simp only [↓c10, ↓c11, ld_keyRows, ld_valueCols]
    try rw [fold_queries]
    simp only [tile, parts, shares, sums, weights, tops, chunk, queries, reduceIte, OfNat.ofNat_ne_zero, OfNat.zero_ne_ofNat, OfNat.one_ne_ofNat, OfNat.ofNat_ne_one, zero_ne_one, one_ne_zero, Nat.reduceEqDiff, Nat.reduceMul, Nat.reduceAdd, zero_add] <;> rfl

end Cert.Walk
-- ==== Proof.Fill.lean ====
module

public import proofs.«01_k».proof.Proof.Walk

@[expose] public section

set_option maxRecDepth 65536
set_option maxHeartbeats 0

noncomputable section

/-! What a filling program leaves in the two buffers that the three programs of a key head share. -/

namespace Cert.Fill
open Idealize.ShloMosaic Idealize.SL.Sem Cert.KernelIdeal Cert.KernelIdeal.Gen Cert.Tile Cert.Walk

variable {F : FTy → Type} [FloatOps F] [Named F]

/-- Eight rows of the value scales, from row `o`. -/
def scaleRows (vs : Vec F S1x1x64x128 .i8) (o : ℕ) : Vec F S1x1x8x128 .i8 :=
  fun x => vs (ix4 0 0 ⟨(o + (x 2).val) % 64, Nat.mod_lt _ (by decide)⟩ ⟨(x 3).val, (x 3).isLt⟩)

/-- The keys times their scales and the score constant: rounded in the lanes below 128, what the rounding lost above. -/
def keys (k : Vec F S1x1x2048x128 .fp8e4m3) (ks : Vec F S1x1x4x2048 .i8) : Vec F S2048x256 .bf16 := fun y =>
  if (y 1).val < 128 then
    k0_pay4 (scaleCols ks (256 * ((y 0).val / 256))) (queryRows k (256 * ((y 0).val / 256)))
      (ix2 ⟨(y 0).val % 256, Nat.mod_lt _ (by decide)⟩ ⟨(y 1).val % 128, Nat.mod_lt _ (by decide)⟩)
  else
    k0_pay5 (scaleCols ks (256 * ((y 0).val / 256))) (queryRows k (256 * ((y 0).val / 256)))
      (ix2 ⟨(y 0).val % 256, Nat.mod_lt _ (by decide)⟩ ⟨(y 1).val % 128, Nat.mod_lt _ (by decide)⟩)

/-- The values times their scales, transposed. -/
def values (v : Vec F S1x1x2048x128 .fp8e4m3) (vs : Vec F S1x1x64x128 .i8) : Vec F S128x2048 .bf16 := fun y =>
  k0_pay7 (k0_pay6 (scaleRows vs (8 * ((y 1).val / 256)))) (queryRows v (256 * ((y 1).val / 256)))
    (ix2 ⟨(y 0).val, (y 0).isLt⟩ ⟨(y 1).val % 256, Nat.mod_lt _ (by decide)⟩)

/-- Eight rows, repeated 32 times. -/
def copies (x : FVec F S8x128 .f32) : FVec F S256x128 .f32 :=
  concatenate S256x128 0 [⟨S8x128, x⟩, ⟨S8x128, x⟩, ⟨S8x128, x⟩, ⟨S8x128, x⟩, ⟨S8x128, x⟩, ⟨S8x128, x⟩, ⟨S8x128, x⟩, ⟨S8x128, x⟩,
    ⟨S8x128, x⟩, ⟨S8x128, x⟩, ⟨S8x128, x⟩, ⟨S8x128, x⟩, ⟨S8x128, x⟩, ⟨S8x128, x⟩, ⟨S8x128, x⟩, ⟨S8x128, x⟩,
    ⟨S8x128, x⟩, ⟨S8x128, x⟩, ⟨S8x128, x⟩, ⟨S8x128, x⟩, ⟨S8x128, x⟩, ⟨S8x128, x⟩, ⟨S8x128, x⟩, ⟨S8x128, x⟩,
    ⟨S8x128, x⟩, ⟨S8x128, x⟩, ⟨S8x128, x⟩, ⟨S8x128, x⟩, ⟨S8x128, x⟩, ⟨S8x128, x⟩, ⟨S8x128, x⟩, ⟨S8x128, x⟩]
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- Eight rows, thirty-two times over, are `copies`. -/
theorem fold_copies (x : FVec F S8x128 .f32) : concatenate S256x128 0 [⟨S8x128, x⟩, ⟨S8x128, x⟩, ⟨S8x128, x⟩, ⟨S8x128, x⟩, ⟨S8x128, x⟩, ⟨S8x128, x⟩, ⟨S8x128, x⟩, ⟨S8x128, x⟩,
    ⟨S8x128, x⟩, ⟨S8x128, x⟩, ⟨S8x128, x⟩, ⟨S8x128, x⟩, ⟨S8x128, x⟩, ⟨S8x128, x⟩, ⟨S8x128, x⟩, ⟨S8x128, x⟩,
    ⟨S8x128, x⟩, ⟨S8x128, x⟩, ⟨S8x128, x⟩, ⟨S8x128, x⟩, ⟨S8x128, x⟩, ⟨S8x128, x⟩, ⟨S8x128, x⟩, ⟨S8x128, x⟩,
    ⟨S8x128, x⟩, ⟨S8x128, x⟩, ⟨S8x128, x⟩, ⟨S8x128, x⟩, ⟨S8x128, x⟩, ⟨S8x128, x⟩, ⟨S8x128, x⟩, ⟨S8x128, x⟩]
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0 = copies x := rfl

/-- A load of eight rows of the value scales. -/
theorem ld_scaleRows (X : Vec F S1x1x64x128 .i8) (o : ℕ) (inb) :
    View.ld X (Rect.unit ![0, 0, o, 0] (no_index S1x1x8x128.size) inb) = scaleRows X o := by
  have h : o + 8 ≤ 64 := inb 2
  funext x
  show X _ = X _
  congr 1
  funext a
  apply Fin.ext
  match a with
  | 0 => rw [Rect.idx_unit_val]; show 0 + (x 0).val = 0; have : (x 0).val < 1 := (x 0).isLt; omega
  | 1 => rw [Rect.idx_unit_val]; show 0 + (x 1).val = 0; have : (x 1).val < 1 := (x 1).isLt; omega
  | 2 => rw [Rect.idx_unit_val]; show o + (x 2).val = (o + (x 2).val) % 64; have : (x 2).val < 8 := (x 2).isLt; omega
  | 3 => rw [Rect.idx_unit_val]; show 0 + (x 3).val = (x 3).val; omega

/-- The first half of the key scratch at an index of a chunk. -/
theorem keys_hi (k : Vec F S1x1x2048x128 .fp8e4m3) (ks : Vec F S1x1x4x2048 .i8) (c : ℕ) (x : S256x128.Idx) (y : S2048x256.Idx)
    (h0 : (y 0).val = 256 * c + (x 0).val) (h1 : (y 1).val = (x 1).val) :
    keys k ks y = k0_pay4 (scaleCols ks (256 * c)) (queryRows k (256 * c)) x := by
  have l0 : (x 0).val < 256 := (x 0).isLt
  have l1 : (x 1).val < 128 := (x 1).isLt
  have e : (y 0).val / 256 = c := by omega
  unfold keys
  rw [if_pos (by omega), e]
  congr 1
  funext a
  apply Fin.ext
  match a with
  | 0 => show (y 0).val % 256 = (x 0).val; omega
  | 1 => show (y 1).val % 128 = (x 1).val; omega

/-- The second half of the key scratch at an index of a chunk. -/
theorem keys_lo (k : Vec F S1x1x2048x128 .fp8e4m3) (ks : Vec F S1x1x4x2048 .i8) (c : ℕ) (x : S256x128.Idx) (y : S2048x256.Idx)
    (h0 : (y 0).val = 256 * c + (x 0).val) (h1 : (y 1).val = 128 + (x 1).val) :
    keys k ks y = k0_pay5 (scaleCols ks (256 * c)) (queryRows k (256 * c)) x := by
  have l0 : (x 0).val < 256 := (x 0).isLt
  have l1 : (x 1).val < 128 := (x 1).isLt
  have e : (y 0).val / 256 = c := by omega
  unfold keys
  rw [if_neg (by omega), e]
  congr 1
  funext a
  apply Fin.ext
  match a with
  | 0 => show (y 0).val % 256 = (x 0).val; omega
  | 1 => show (y 1).val % 128 = (x 1).val; omega

/-- The value scratch at an index of a chunk. -/
theorem values_at (v : Vec F S1x1x2048x128 .fp8e4m3) (vs : Vec F S1x1x64x128 .i8) (c : ℕ) (x : S128x256.Idx) (y : S128x2048.Idx)
    (h0 : (y 0).val = (x 0).val) (h1 : (y 1).val = 256 * c + (x 1).val) :
    values v vs y = k0_pay7 (k0_pay6 (scaleRows vs (8 * c))) (queryRows v (256 * c)) x := by
  have l1 : (x 1).val < 256 := (x 1).isLt
  have e : (y 1).val / 256 = c := by omega
  unfold values
  rw [e]
  congr 1
  funext a
  apply Fin.ext
  match a with
  | 0 => exact h0
  | 1 => show (y 1).val % 256 = (x 1).val; omega

variable (c : Dev nD) (g : grid0.Coords)
  (a3 : Memref sig .tc .vmem S1x1x2048x128 .fp8e4m3) (h3 : a3.IsWhole)
  (a4 : Memref sig .tc .vmem S1x1x4x2048 .i8) (h4 : a4.IsWhole)
  (a5 : Memref sig .tc .vmem S1x1x2048x128 .fp8e4m3) (h5 : a5.IsWhole)
  (a6 : Memref sig .tc .vmem S1x1x4x2048 .i8) (h6 : a6.IsWhole)
  (a7 : Memref sig .tc .vmem S1x1x2048x128 .fp8e4m3) (h7 : a7.IsWhole)
  (a8 : Memref sig .tc .vmem S1x1x64x128 .i8) (h8 : a8.IsWhole)
  (a9 : Memref sig .tc .vmem S1x2048x128 .bf16) (h9 : a9.IsWhole)
  (a10 : Memref sig .tc .vmem S2048x256 .bf16) (h10 : a10.IsWhole)
  (a11 : Memref sig .tc .vmem S128x2048 .bf16) (h11 : a11.IsWhole)
  (a12 : Memref sig .tc .vmem S8x32x8x256 .f32) (h12 : a12.IsWhole)
  (a13 : Memref sig .tc .vmem S8x8x256 .f32) (h13 : a13.IsWhole)
  (a14 : Memref sig .tc .vmem S8x8x256 .f32) (h14 : a14.IsWhole)
  (x0 : Vec F S1x1x2048x128 .fp8e4m3) (x1 : Vec F S1x1x4x2048 .i8) (x2 : Vec F S1x1x2048x128 .fp8e4m3) (x3 : Vec F S1x1x4x2048 .i8)
  (x4 : Vec F S1x1x2048x128 .fp8e4m3) (x5 : Vec F S1x1x64x128 .i8)
set_option backward.isDefEq.respectTransparency false in
/-- A filling program leaves the keys in the first buffer. -/
theorem fill_keys (hc) : sout0_A_0 c g a3 h3 a4 h4 a5 h5 a6 h6 a7 h7 a8 h8 a9 h9 a10 h10 a11 h11 a12 h12 a13 h13 a14 h14 hc x0 x1 x2 x3 x4 x5 = keys x2 x3 := by
  have e5 : View.read (Elt F) a5.view (h5.unread x2) = x2 := h5.read_unread x2
  have e6 : View.read (Elt F) a6.view (h6.unread x3) = x3 := h6.read_unread x3
  unfold sout0_A_0
  rw [View.read_writes_junk_eq_canon]
  frame_open
  simp only [View.readAt_eq_ld, e5, e6, ld_queryRows, ld_scaleCols]
  funext y
  canon_tiles y h
  all_goals
    first
      | refine Eq.trans ?_ (keys_hi x2 x3 0 y _ (by omega) (by omega)).symm
      | refine Eq.trans ?_ (keys_lo x2 x3 0 y _ (by omega) (by omega)).symm
      | refine Eq.trans ?_ (keys_hi x2 x3 1 y _ (by omega) (by omega)).symm
      | refine Eq.trans ?_ (keys_lo x2 x3 1 y _ (by omega) (by omega)).symm
      | refine Eq.trans ?_ (keys_hi x2 x3 2 y _ (by omega) (by omega)).symm
      | refine Eq.trans ?_ (keys_lo x2 x3 2 y _ (by omega) (by omega)).symm
      | refine Eq.trans ?_ (keys_hi x2 x3 3 y _ (by omega) (by omega)).symm
      | refine Eq.trans ?_ (keys_lo x2 x3 3 y _ (by omega) (by omega)).symm
      | refine Eq.trans ?_ (keys_hi x2 x3 4 y _ (by omega) (by omega)).symm
      | refine Eq.trans ?_ (keys_lo x2 x3 4 y _ (by omega) (by omega)).symm
      | refine Eq.trans ?_ (keys_hi x2 x3 5 y _ (by omega) (by omega)).symm
      | refine Eq.trans ?_ (keys_lo x2 x3 5 y _ (by omega) (by omega)).symm
      | refine Eq.trans ?_ (keys_hi x2 x3 6 y _ (by omega) (by omega)).symm
      | refine Eq.trans ?_ (keys_lo x2 x3 6 y _ (by omega) (by omega)).symm
      | refine Eq.trans ?_ (keys_hi x2 x3 7 y _ (by omega) (by omega)).symm
      | refine Eq.trans ?_ (keys_lo x2 x3 7 y _ (by omega) (by omega)).symm
    refine congrFun ?_ _
    clear h0 h1 y0_lt y1_lt y
    unfold_payloads
    repeat simp only [View.readAt_eq_ld, e5, e6, ld_queryRows, ld_scaleCols, fold_lanes, Nat.reduceMul]
    try rfl

set_option backward.isDefEq.respectTransparency false in
/-- A filling program leaves the values in the second buffer. -/
theorem fill_values (hc) : sout0_A_1 c g a3 h3 a4 h4 a5 h5 a6 h6 a7 h7 a8 h8 a9 h9 a10 h10 a11 h11 a12 h12 a13 h13 a14 h14 hc x0 x1 x2 x3 x4 x5 = values x4 x5 := by
  have e7 : View.read (Elt F) a7.view (h7.unread x4) = x4 := h7.read_unread x4
  have e8 : View.read (Elt F) a8.view (h8.unread x5) = x5 := h8.read_unread x5
  unfold sout0_A_1
  rw [View.read_writes_junk_eq_canon]
  frame_open
  simp only [View.readAt_eq_ld, e7, e8, ld_queryRows, ld_scaleRows]
  funext y
  canon_tiles y h
  all_goals
    first
      | refine Eq.trans ?_ (values_at x4 x5 0 y _ (by omega) (by omega)).symm
      | refine Eq.trans ?_ (values_at x4 x5 1 y _ (by omega) (by omega)).symm
      | refine Eq.trans ?_ (values_at x4 x5 2 y _ (by omega) (by omega)).symm
      | refine Eq.trans ?_ (values_at x4 x5 3 y _ (by omega) (by omega)).symm
      | refine Eq.trans ?_ (values_at x4 x5 4 y _ (by omega) (by omega)).symm
      | refine Eq.trans ?_ (values_at x4 x5 5 y _ (by omega) (by omega)).symm
      | refine Eq.trans ?_ (values_at x4 x5 6 y _ (by omega) (by omega)).symm
      | refine Eq.trans ?_ (values_at x4 x5 7 y _ (by omega) (by omega)).symm
    refine congrFun ?_ _
    clear h0 h1 y0_lt y1_lt y
    unfold_payloads
    repeat simp only [View.readAt_eq_ld, e7, e8, ld_queryRows, ld_scaleRows, fold_copies, Nat.reduceMul]
    try rfl

end Cert.Fill
-- ==== Proof.Blocks.lean ====
module

public import proofs.«01_k».proof.Proof.Gen.KernelIdeal.Value
public import proofs.«01_k».proof.Proof.Fill
public import Idealize.ShloMosaic.Lib.Pointwise
public import Idealize.ShloMosaic.Lib.Claim

@[expose] public section

set_option maxRecDepth 65536
set_option maxHeartbeats 0

noncomputable section

/-! What every grid point reads and leaves. -/

namespace Cert.Blocks
open Idealize.ShloMosaic Idealize.ShloMosaic.TcCoe Idealize.SL.Sem Cert.KernelIdeal Cert.KernelIdeal.Gen Cert.Tile Cert.Walk Cert.Fill

variable {F : FTy → Type} [FloatOps F] [Named F]
variable (m : (ℓ : Loc nD τ sig) → Buf (Elt F) ℓ) (c : Dev nD)

/-- The block of every window at point `t`: batch `t / 24`, query head `t % 24`, key head `t / 3 % 8`. -/
theorem idx : ∀ t : Fin cfg0.N,
    win0_0.index t 0 = t.val / 24 ∧ win0_0.index t 1 = t.val % 24 ∧ win0_0.index t 2 = 0 ∧ win0_0.index t 3 = 0
    ∧ win0_1.index t 0 = t.val / 24 ∧ win0_1.index t 1 = t.val % 24 ∧ win0_1.index t 2 = 0 ∧ win0_1.index t 3 = 0
    ∧ win0_2.index t 0 = t.val / 24 ∧ win0_2.index t 1 = t.val / 3 % 8 ∧ win0_2.index t 2 = 0 ∧ win0_2.index t 3 = 0
    ∧ win0_3.index t 0 = t.val / 24 ∧ win0_3.index t 1 = t.val / 3 % 8 ∧ win0_3.index t 2 = 0 ∧ win0_3.index t 3 = 0
    ∧ win0_4.index t 0 = t.val / 24 ∧ win0_4.index t 1 = t.val / 3 % 8 ∧ win0_4.index t 2 = 0 ∧ win0_4.index t 3 = 0
    ∧ win0_5.index t 0 = t.val / 24 ∧ win0_5.index t 1 = t.val / 3 % 8 ∧ win0_5.index t 2 = 0 ∧ win0_5.index t 3 = 0 :=
  (by decide +kernel : ∀ t : Fin grid0.N, _)

/-- The grid has 288 steps. -/
theorem lt_N (t : Fin cfg0.N) : t.val < 288 := t.isLt

/-! ## The operands of a head, of the arguments -/

section
variable (a0 : Vec F S12x2048x24x128 .i8) (a1 : Vec F S12x2048x24x4 .i8) (a2 : Vec F S12x2048x8x128 .i8) (a3 : Vec F S12x2048x8x4 .i8)
  (a5 : Vec F S12x64x8x128 .i8)

/-- The key in row `r` of a key head's operand: every chunk of 256 keys is laid out place by place of its eight blocks of 32. -/
def place (r : ℕ) : ℕ := r / 256 * 256 + r % 8 * 32 + r / 8 % 32

/-- The place of a key is one of the 2048. -/
theorem place_lt {r : ℕ} (h : r < 2048) : place r < 2048 := by unfold place; omega

/-- Query head `h` of batch `b`. -/
def queryCodes (b : Fin 12) (h : Fin 24) : Vec F S1x1x2048x128 .fp8e4m3 := fun y => bitcastToFloat .fp8e4m3 a0 (ix4 b (y 2) h (y 3))

/-- The scales of query head `h` of batch `b`. -/
def queryScales (b : Fin 12) (h : Fin 24) : Vec F S1x1x4x2048 .i8 := fun y => a1 (ix4 b (y 3) h (y 2))

/-- Key head `g` of batch `b`, its keys in the order of `place`. -/
def keyCodes (b : Fin 12) (g : Fin 8) : Vec F S1x1x2048x128 .fp8e4m3 :=
  fun y => bitcastToFloat .fp8e4m3 a2 (ix4 b ⟨place (y 2).val, place_lt (y 2).isLt⟩ g (y 3))

/-- The scales of key head `g` of batch `b`, in the order of `place`. -/
def keyScales (b : Fin 12) (g : Fin 8) : Vec F S1x1x4x2048 .i8 := fun y => a3 (ix4 b ⟨place (y 3).val, place_lt (y 3).isLt⟩ g (y 2))

/-- The scales of value head `g` of batch `b`. -/
def valueScales (b : Fin 12) (g : Fin 8) : Vec F S1x1x64x128 .i8 := fun y => a5 (ix4 b (y 2) g (y 3))

end

/-- The array of query codes at an index: the argument with position and head exchanged. -/
theorem arr0 (i : S12x24x2048x128.Idx) : (V m c main_v3 : Vec F S12x24x2048x128 .fp8e4m3) i
    = bitcastToFloat .fp8e4m3 (m ((c : Thread nD τ).loc main_arg0) : Vec F S12x2048x24x128 .i8) (ix4 (i 0) (i 2) (i 1) (i 3)) := by
  entry_read
  pointwise

/-- The array of query scales at an index. -/
theorem arr1 (i : S12x24x4x2048.Idx) : (V m c main_v4 : Vec F S12x24x4x2048 .i8) i
    = (m ((c : Thread nD τ).loc main_arg1) : Vec F S12x2048x24x4 .i8) (ix4 (i 0) (i 3) (i 1) (i 2)) := by
  entry_read
  pointwise

/-- The array of key codes at an index: the argument at the key that has this row. -/
theorem arr2 (i : S12x8x2048x128.Idx) : (V m c main_v7 : Vec F S12x8x2048x128 .fp8e4m3) i
    = bitcastToFloat .fp8e4m3 (m ((c : Thread nD τ).loc main_arg2) : Vec F S12x2048x8x128 .i8) (ix4 (i 0) ⟨place (i 2).val, place_lt (i 2).isLt⟩ (i 1) (i 3)) := by
  entry_read
  pointwise
  rfl

/-- The array of key scales at an index. -/
theorem arr3 (i : S12x8x4x2048.Idx) : (V m c main_v11 : Vec F S12x8x4x2048 .i8) i
    = (m ((c : Thread nD τ).loc main_arg3) : Vec F S12x2048x8x4 .i8) (ix4 (i 0) ⟨place (i 3).val, place_lt (i 3).isLt⟩ (i 1) (i 2)) := by
  entry_read
  pointwise
  rfl

/-- The array of value codes at an index. -/
theorem arr4 (i : S12x8x2048x128.Idx) : (V m c main_v14 : Vec F S12x8x2048x128 .fp8e4m3) i
    = bitcastToFloat .fp8e4m3 (m ((c : Thread nD τ).loc main_arg4) : Vec F S12x2048x8x128 .i8) (ix4 (i 0) ⟨place (i 2).val, place_lt (i 2).isLt⟩ (i 1) (i 3)) := by
  entry_read
  pointwise
  rfl

/-- The array of value scales at an index. -/
theorem arr5 (i : S12x8x64x128.Idx) : (V m c main_v15 : Vec F S12x8x64x128 .i8) i
    = (m ((c : Thread nD τ).loc main_arg5) : Vec F S12x64x8x128 .i8) (ix4 (i 0) (i 2) (i 1) (i 3)) := by
  entry_read
  pointwise

/-- The batch of point `t`. -/
def batch (t : Fin cfg0.N) : Fin 12 := ⟨t.val / 24, by have := lt_N t; omega⟩

/-- The query head of point `t`. -/
def qhead (t : Fin cfg0.N) : Fin 24 := ⟨t.val % 24, Nat.mod_lt _ (by decide)⟩

/-- The key head of point `t`. -/
def khead (t : Fin cfg0.N) : Fin 8 := ⟨t.val / 3 % 8, Nat.mod_lt _ (by decide)⟩

/-- A step's block of query codes is its head's. -/
theorem blk0 (t : Fin cfg0.N) : iblk m c 0 t = queryCodes (m ((c : Thread nD τ).loc main_arg0)) (batch t) (qhead t) := by
  funext y
  refine Eq.trans (b := V m c main_v3 (ix4 (batch t) (qhead t) (y 2) (y 3))) ?_ (arr0 m c _)
  blk_ext [iblk, idx t, batch, qhead]

/-- A step's block of query scales is its head's. -/
theorem blk1 (t : Fin cfg0.N) : iblk m c 1 t = queryScales (m ((c : Thread nD τ).loc main_arg1)) (batch t) (qhead t) := by
  funext y
  refine Eq.trans (b := V m c main_v4 (ix4 (batch t) (qhead t) (y 2) (y 3))) ?_ (arr1 m c _)
  blk_ext [iblk, idx t, batch, qhead]

/-- A step's block of key codes is its key head's. -/
theorem blk2 (t : Fin cfg0.N) : iblk m c 2 t = keyCodes (m ((c : Thread nD τ).loc main_arg2)) (batch t) (khead t) := by
  funext y
  refine Eq.trans (b := V m c main_v7 (ix4 (batch t) (khead t) (y 2) (y 3))) ?_ (arr2 m c _)
  blk_ext [iblk, idx t, batch, khead]

/-- A step's block of key scales is its key head's. -/
theorem blk3 (t : Fin cfg0.N) : iblk m c 3 t = keyScales (m ((c : Thread nD τ).loc main_arg3)) (batch t) (khead t) := by
  funext y
  refine Eq.trans (b := V m c main_v11 (ix4 (batch t) (khead t) (y 2) (y 3))) ?_ (arr3 m c _)
  blk_ext [iblk, idx t, batch, khead]

/-- A step's block of value codes is its key head's. -/
theorem blk4 (t : Fin cfg0.N) : iblk m c 4 t = keyCodes (m ((c : Thread nD τ).loc main_arg4)) (batch t) (khead t) := by
  funext y
  refine Eq.trans (b := V m c main_v14 (ix4 (batch t) (khead t) (y 2) (y 3))) ?_ (arr4 m c _)
  blk_ext [iblk, idx t, batch, khead]

/-- A step's block of value scales is its key head's. -/
theorem blk5 (t : Fin cfg0.N) : iblk m c 5 t = valueScales (m ((c : Thread nD τ).loc main_arg5)) (batch t) (khead t) := by
  funext y
  refine Eq.trans (b := V m c main_v15 (ix4 (batch t) (khead t) (y 2) (y 3))) ?_ (arr5 m c _)
  blk_ext [iblk, idx t, batch, khead]

/-- A step that is not the first of its group has the batch and key head of the step before it. -/
theorem prev (t u : Fin cfg0.N) (e : t.val = u.val + 1) (h : ¬ t.val % 3 = 0) : batch t = batch u ∧ khead t = khead u := by
  refine ⟨Fin.ext ?_, Fin.ext ?_⟩
  · show t.val / 24 = u.val / 24; omega
  · show t.val / 3 % 8 = u.val / 3 % 8; omega

/-- What every point leaves: its head's result, and the keys and the values of its key head in the two buffers. -/
theorem outs (t : Fin cfg0.N) : outsAt0 m c t.val t.isLt
    = (head (iblk m c 0 t) (iblk m c 1 t) (keys (iblk m c 2 t) (iblk m c 3 t)) (values (iblk m c 4 t) (iblk m c 5 t)),
      keys (iblk m c 2 t) (iblk m c 3 t), values (iblk m c 4 t) (iblk m c 5 t)) := by
  obtain ⟨n, hn⟩ := t
  induction n with
  | zero => rw [outsAt0_A m c ⟨0, hn⟩ rfl, out_A, fill_keys, fill_values]
  | succ n ih =>
    by_cases h : (n + 1) % 3 = 0
    · rw [outsAt0_A m c ⟨n + 1, hn⟩ h, out_A, fill_keys, fill_values]
    · have hn' : n < cfg0.N := Nat.lt_of_succ_lt hn
      obtain ⟨eb, ek⟩ := prev ⟨n + 1, hn⟩ ⟨n, hn'⟩ rfl h
      have e2 : iblk m c 2 ⟨n + 1, hn⟩ = iblk m c 2 ⟨n, hn'⟩ := by rw [blk2, blk2, eb, ek]
      have e3 : iblk m c 3 ⟨n + 1, hn⟩ = iblk m c 3 ⟨n, hn'⟩ := by rw [blk3, blk3, eb, ek]
      have e4 : iblk m c 4 ⟨n + 1, hn⟩ = iblk m c 4 ⟨n, hn'⟩ := by rw [blk4, blk4, eb, ek]
      have e5 : iblk m c 5 ⟨n + 1, hn⟩ = iblk m c 5 ⟨n, hn'⟩ := by rw [blk5, blk5, eb, ek]
      have k := ih hn'
      rw [outsAt0_B m c ⟨n + 1, hn⟩ h, out_B, e2, e3, e4, e5]
      unfold sout0_B_0 sout0_B_1
      show (head _ _ (outsAt0 m c n hn').2.1 (outsAt0 m c n hn').2.2, (outsAt0 m c n hn').2.1, (outsAt0 m c n hn').2.2) = _
      rw [k]

/-- The result array: at batch `b`, query `s`, lane `d` of head `h`, what that head holds there. -/
theorem result_at (b : Fin 12) (s : Fin 2048) (h : Fin 24) (d : Fin 128) :
    (Value.G6 m c : Vec F S12x2048x3072 .bf16) (ix3 b s ⟨h.val * 128 + d.val, by omega⟩)
      = head (queryCodes (m ((c : Thread nD τ).loc main_arg0)) b h) (queryScales (m ((c : Thread nD τ).loc main_arg1)) b h)
          (keys (keyCodes (m ((c : Thread nD τ).loc main_arg2)) b ⟨h.val / 3, by omega⟩) (keyScales (m ((c : Thread nD τ).loc main_arg3)) b ⟨h.val / 3, by omega⟩))
          (values (keyCodes (m ((c : Thread nD τ).loc main_arg4)) b ⟨h.val / 3, by omega⟩) (valueScales (m ((c : Thread nD τ).loc main_arg5)) b ⟨h.val / 3, by omega⟩))
          (ix3 0 s d) := by
  have hN : cfg0.N = 288 := N_0
  have hp : Value.pt6Of (ix3 b s ⟨h.val * 128 + d.val, by omega⟩ : S12x2048x3072.Idx) = 24 * b.val + h.val := by
    show 24 * (b.val / 1 - 0) + 24 * (s.val / 2048 - 0) + 1 * ((h.val * 128 + d.val) / 128 - 0) = _
    omega
  have hlt : 24 * b.val + h.val < cfg0.N := by omega
  have hl : Value.loc6Of (ix3 b s ⟨h.val * 128 + d.val, by omega⟩ : S12x2048x3072.Idx) = ix3 0 s d := by
    funext a
    apply Fin.ext
    match a with
    | 0 => show b.val % 1 = 0; omega
    | 1 => show s.val % 2048 = s.val; omega
    | 2 => show (h.val * 128 + d.val) % 128 = d.val; omega
  have eb : batch ⟨24 * b.val + h.val, hlt⟩ = b := Fin.ext (by show (24 * b.val + h.val) / 24 = b.val; omega)
  have eh : qhead ⟨24 * b.val + h.val, hlt⟩ = h := Fin.ext (by show (24 * b.val + h.val) % 24 = h.val; omega)
  have ek : khead ⟨24 * b.val + h.val, hlt⟩ = ⟨h.val / 3, by omega⟩ := Fin.ext (by show (24 * b.val + h.val) / 3 % 8 = h.val / 3; omega)
  have ho := outs m c ⟨24 * b.val + h.val, hlt⟩
  rw [Value.outsAt0_sweep, blk0, blk1, blk2, blk3, blk4, blk5, eb, eh, ek] at ho
  unfold Value.G6
  simp only [hp, hl]
  rw [dif_pos hlt, ho]

end Cert.Blocks

end
-- ==== Proof.Scalar.lean ====
module

public import Idealize.ShloMosaic.PureOps.Ideal

@[expose] public section

set_option maxHeartbeats 400000

noncomputable section

/-! The scalar mathematics: the constants, the decoding of codes and scales, the exponentials and the quantiser of one block. -/

namespace Cert.Scalar
open Idealize.ShloMosaic

/-! ## The constants -/

/-- The word of -1. -/
theorem bits_neg_one : Ideal.ofBits FTy.f32 3212836864#32 = ((-1 : ℝ) : EReal) := by
  simp [Ideal.ofBits, Ideal.ieee, -EReal.coe_mul]; norm_num

/-- The word of -127. -/
theorem bits_neg_127 : Ideal.ofBits FTy.f32 3271426048#32 = ((-127 : ℝ) : EReal) := by
  simp [Ideal.ofBits, Ideal.ieee, -EReal.coe_mul]; norm_num

/-- The word of 448. -/
theorem bits_448 : Ideal.ofBits FTy.f32 1138753536#32 = ((448 : ℝ) : EReal) := by
  simp [Ideal.ofBits, Ideal.ieee, -EReal.coe_mul]; norm_num

/-- The word of -448. -/
theorem bits_neg_448 : Ideal.ofBits FTy.f32 3286237184#32 = ((-448 : ℝ) : EReal) := by
  simp [Ideal.ofBits, Ideal.ieee, -EReal.coe_mul]; norm_num

/-- The word of minus infinity. -/
theorem bits_bot : Ideal.ofBits FTy.f32 4286578688#32 = ⊥ := by
  simp [Ideal.ofBits, Ideal.ieee, -EReal.coe_mul]

/-- The word of 1/8. -/
theorem bits_eighth : Ideal.ofBits FTy.bf16 15872#16 = ((1 / 8 : ℝ) : EReal) := by
  simp [Ideal.ofBits, Ideal.ieee, -EReal.coe_mul]; norm_num

/-! ## Decoding -/

/-- The power of two of a scale byte: the float whose exponent bits are the byte. -/
def pow (b : BitVec 8) : EReal := Ideal.ofBits FTy.f32 (IntOp.shli ArithUnit.vector (BitVec.setWidth 32 b) 23#32)

/-- A byte shifted left by 23 is a word with sign 0, the byte as exponent field and significand field 0; and the byte less 127. -/
theorem pow_bits : ∀ b : BitVec 8, IntOp.shli ArithUnit.vector (BitVec.setWidth 32 b) 23#32 = BitVec.setWidth 32 b <<< 23
    ∧ ((BitVec.setWidth 32 b <<< 23).extractLsb' (8 + 23) 1 == 1#1) = false
    ∧ ((BitVec.setWidth 32 b <<< 23).extractLsb' 23 8).toNat = b.toNat ∧ ((BitVec.setWidth 32 b <<< 23).extractLsb' 0 23).toNat = 0
    ∧ (IntOp.subi (BitVec.setWidth 32 b) 127#32).toInt = (b.toNat : ℤ) - 127 := by
  decide +kernel

/-- The significand of a power of two, scaled. -/
theorem two_pow (n : ℤ) : (2 : ℝ) ^ (23 : ℤ) * 2 ^ (n - 127 - 23) = 2 ^ (n - 127) := by
  have e : (23 : ℤ) + (n - 127 - 23) = n - 127 := by ring
  rw [← zpow_add₀ two_ne_zero, e]

/-- A scale byte that is neither 0 nor 255 is a power of two, its byte the biased exponent. -/
theorem pow_eq (b : BitVec 8) (h1 : 1 ≤ b.toNat) (h2 : b.toNat ≤ 254) : pow b = (((2 : ℝ) ^ ((b.toNat : ℤ) - 127) : ℝ) : EReal) := by
  obtain ⟨e0, e1, e2, e3, -⟩ := pow_bits b
  unfold pow
  rw [e0]
  change Ideal.ieee 8 23 (BitVec.setWidth 32 b <<< 23) = _
  unfold Ideal.ieee
  simp only [e1, e2, e3]
  rw [if_neg (by omega), if_neg (by omega)]
  rw [← two_pow]
  refine congrArg _ ?_
  generalize (b.toNat : ℤ) = n
  norm_num

/-- The reference's power of two of a scale byte is the same. -/
theorem pow_ref (b : BitVec 8) (h1 : 1 ≤ b.toNat) (h2 : b.toNat ≤ 254) :
    FloatOps.exp2 (F := Ideal) (φ := .f32) (FloatOps.sitofp (F := Ideal) .f32 (IntOp.subi (BitVec.setWidth 32 b) 127#32)) = pow b := by
  rw [pow_eq b h1 h2]
  change Ideal.exp2 (((((IntOp.subi (BitVec.setWidth 32 b) 127#32).toInt : ℤ) : ℝ) : EReal)) = _
  rw [(pow_bits b).2.2.2.2, Ideal.exp2_coe]
  congr 1
  exact Real.rpow_intCast 2 _

/-- A code is a real, or minus infinity for a NaN. -/
theorem code_cases (b : BitVec 8) : Ideal.ofBits .fp8e4m3 b = ⊥ ∨ ∃ r : ℝ, Ideal.ofBits .fp8e4m3 b = (r : EReal) := by
  change Ideal.e4m3fn b = ⊥ ∨ ∃ r : ℝ, Ideal.e4m3fn b = (r : EReal)
  unfold Ideal.e4m3fn
  dsimp only
  split
  · exact .inl rfl
  · split
    · exact .inr ⟨_, rfl⟩
    · exact .inr ⟨_, rfl⟩

/-- A sum times a nonnegative real is the sum of the products. -/
theorem sum_mul_real {ι : Type} (t : Finset ι) (f : ι → EReal) (c : ℝ) (hc : 0 ≤ c) : (∑ i ∈ t, f i) * (c : EReal) = ∑ i ∈ t, f i * (c : EReal) := by
  classical
  induction t using Finset.induction_on with
  | empty => simp
  | insert a t h ih =>
    rw [Finset.sum_insert h, Finset.sum_insert h, ← ih]
    exact EReal.right_distrib_of_nonneg_of_ne_top (EReal.coe_nonneg.mpr hc) (EReal.coe_ne_top c) _ _

/-- A product with minus infinity is its own double. -/
theorem bot_mul_double (y : EReal) : (⊥ : EReal) * y + ⊥ * y = ⊥ * y := by
  rcases lt_trichotomy y 0 with h | rfl | h
  · rw [EReal.bot_mul_of_neg h]; rfl
  · simp
  · rw [EReal.bot_mul_of_pos h]; rfl

/-! ## Exponentials -/

/-- `2 ^ y`, and 0 at minus infinity. -/
def E (y : EReal) : ℝ := if y = ⊥ then 0 else Real.rpow 2 y.toReal

/-- `E` at minus infinity. -/
theorem E_bot : E ⊥ = 0 := if_pos rfl

/-- `E` at a real. -/
theorem E_coe (r : ℝ) : E r = Real.rpow 2 r := by simp [E]

/-- `E` is not negative. -/
theorem E_nonneg (y : EReal) : 0 ≤ E y := by
  unfold E; split
  · exact le_rfl
  · exact Real.rpow_nonneg (by norm_num) _

/-- `E` is positive off minus infinity. -/
theorem E_pos {y : EReal} (h : y ≠ ⊥) : 0 < E y := by
  unfold E; rw [if_neg h]; exact Real.rpow_pos_of_pos (by norm_num) _

/-- 2 to a score less a real. -/
theorem exp2_sub (y : EReal) (hy : y ≠ ⊤) (B : ℝ) : FloatOps.exp2 (F := Ideal) (φ := .f32) (y - (B : EReal)) = ((E y / Real.rpow 2 B : ℝ) : EReal) := by
  change Ideal.exp2 (y - (B : EReal)) = _
  induction y with
  | bot => rw [E_bot, EReal.bot_sub]; simp
  | top => exact absurd rfl hy
  | coe r =>
    rw [E_coe, ← EReal.coe_sub, Ideal.exp2_coe]
    congr 1
    exact Real.rpow_sub (by norm_num) _ _

/-- 2 to a real. -/
theorem exp2_coe (r : ℝ) : FloatOps.exp2 (F := Ideal) (φ := .f32) (r : EReal) = ((Real.rpow 2 r : ℝ) : EReal) := rfl

/-- `e ^ y`, and 0 at minus infinity. -/
def ex (y : EReal) : ℝ := if y = ⊥ then 0 else Real.exp y.toReal

/-- `ex` at minus infinity. -/
theorem ex_bot : ex ⊥ = 0 := if_pos rfl

/-- `ex` at a real. -/
theorem ex_coe (r : ℝ) : ex r = Real.exp r := by simp [ex]

/-- `ex` is not negative. -/
theorem ex_nonneg (y : EReal) : 0 ≤ ex y := by
  unfold ex; split
  · exact le_rfl
  · exact (Real.exp_pos _).le

/-- `ex` is positive off minus infinity. -/
theorem ex_pos {y : EReal} (h : y ≠ ⊥) : 0 < ex y := by
  unfold ex; rw [if_neg h]; exact Real.exp_pos _

/-- e to a score less a real. -/
theorem exp_sub (y : EReal) (hy : y ≠ ⊤) (B : ℝ) : Ideal.exp (y - (B : EReal)) = ((ex y * Real.exp (-B) : ℝ) : EReal) := by
  induction y with
  | bot => rw [ex_bot, EReal.bot_sub, zero_mul]; rfl
  | top => exact absurd rfl hy
  | coe r => rw [ex_coe, ← EReal.coe_sub, Ideal.exp_coe, sub_eq_add_neg, Real.exp_add]

/-- A power of 2 with the exponent in base 2. -/
theorem E_score (y : EReal) (hy : y ≠ ⊤) : E (y * (((Real.log 2)⁻¹ : ℝ) : EReal)) = ex y := by
  have h2 : 0 < Real.log 2 := Real.log_pos (by norm_num)
  induction y with
  | bot => rw [EReal.bot_mul_coe_of_pos (inv_pos.mpr h2), E_bot, ex_bot]
  | top => exact absurd rfl hy
  | coe x =>
    rw [← EReal.coe_mul, E_coe, ex_coe]
    show (2 : ℝ) ^ (x * (Real.log 2)⁻¹) = _
    rw [Real.rpow_def_of_pos (by norm_num)]
    congr 1
    field_simp

/-! ## One query's softmax -/

/-- None of the scores `x` that query `q` sees is plus infinity. -/
def Bounded {n : ℕ} (q : ℕ) (x : Fin n → EReal) : Prop := ∀ k, k.val ≤ q → x k ≠ ⊤

open Classical in
/-- The weight of a key in the softmax of query `q` with scores `x`: the exponential of its score, and 0 when the key comes
after the query or a score that the query sees is plus infinity. -/
def wgt {n : ℕ} (q : ℕ) (x : Fin n → EReal) (k : Fin n) : ℝ := if k.val ≤ q ∧ Bounded q x then ex (x k) else 0

/-- A weight is not negative. -/
theorem wgt_nonneg {n : ℕ} (q : ℕ) (x : Fin n → EReal) (k : Fin n) : 0 ≤ wgt q x k := by
  unfold wgt; split
  · exact ex_nonneg _
  · exact le_rfl

/-- A key after the query weighs 0. -/
theorem wgt_after {n : ℕ} (q : ℕ) (x : Fin n → EReal) (k : Fin n) (h : q < k.val) : wgt q x k = 0 := if_neg fun h' => by omega

/-- A key that the query sees weighs the exponential of its score. -/
theorem wgt_seen {n : ℕ} {q : ℕ} {x : Fin n → EReal} (hb : Bounded q x) (k : Fin n) (h : k.val ≤ q) : wgt q x k = ex (x k) := if_pos ⟨h, hb⟩

/-- A query has a softmax when its largest score is a real. -/
def Live {n : ℕ} (q : ℕ) (x : Fin n → EReal) : Prop := Bounded q x ∧ ∃ k, k.val ≤ q ∧ x k ≠ ⊥

/-- Without a largest score in the reals every weight is 0. -/
theorem wgt_dead {n : ℕ} {q : ℕ} {x : Fin n → EReal} (h : ¬ Live q x) (k : Fin n) : wgt q x k = 0 := by
  unfold wgt
  split
  · rename_i hk
    have : x k = ⊥ := by
      by_contra hne
      exact h ⟨hk.2, k, hk.1, hne⟩
    rw [this, ex_bot]
  · rfl

/-- With one the weights have a positive sum. -/
theorem wgt_pos {n : ℕ} {q : ℕ} {x : Fin n → EReal} (h : Live q x) : 0 < ∑ k, wgt q x k := by
  obtain ⟨hb, k, hk, hne⟩ := h
  refine Finset.sum_pos' (fun k _ => wgt_nonneg q x k) ⟨k, Finset.mem_univ _, ?_⟩
  rw [wgt_seen hb k hk]
  exact ex_pos hne

/-! ## The quantiser -/

/-- The exponent of a block whose largest probability is `a`. -/
def expo (a : EReal) : EReal := Ideal.liftRound Int.floor (Ideal.log (a * ((1 / 448 : ℝ) : EReal)) * (((Real.log 2)⁻¹ : ℝ) : EReal))

/-- The exponent of a positive real, and that it brings the real to at most 448. -/
theorem expo_coe (a : ℝ) (h : 0 < a) : ∃ e : ℝ, expo a = (e : EReal) ∧ a * Real.rpow 2 (-1 - e) ≤ 448 := by
  have h2 : (0 : ℝ) < Real.log 2 := Real.log_pos (by norm_num)
  have h448 : 0 < a * (1 / 448) := by positivity
  refine ⟨(⌊Real.log (a * (1 / 448)) * (Real.log 2)⁻¹⌋ : ℤ), ?_, ?_⟩
  · unfold expo
    rw [← EReal.coe_mul, Ideal.log_coe, if_neg (not_le.mpr h448), ← EReal.coe_mul]
    rfl
  · have hl : Real.log (a * (1 / 448)) * (Real.log 2)⁻¹ < (⌊Real.log (a * (1 / 448)) * (Real.log 2)⁻¹⌋ : ℤ) + 1 := Int.lt_floor_add_one _
    generalize ((⌊Real.log (a * (1 / 448)) * (Real.log 2)⁻¹⌋ : ℤ) : ℝ) = e at hl
    have hlog : Real.log (a * (1 / 448)) < (e + 1) * Real.log 2 := by
      rw [← div_eq_mul_inv, div_lt_iff₀ h2] at hl; exact hl
    have ha : a * (1 / 448) ≤ Real.rpow 2 (e + 1) := by
      have := Real.exp_log h448
      rw [← this]
      show _ ≤ (2 : ℝ) ^ (e + 1)
      rw [Real.rpow_def_of_pos (by norm_num), mul_comm (Real.log 2)]
      exact Real.exp_le_exp.mpr hlog.le
    have hp : (0 : ℝ) < Real.rpow 2 (-1 - e) := Real.rpow_pos_of_pos (by norm_num) _
    have hone : Real.rpow 2 (e + 1) * Real.rpow 2 (-1 - e) = 1 := by
      show (2 : ℝ) ^ (e + 1) * (2 : ℝ) ^ (-1 - e) = 1
      rw [← Real.rpow_add (by norm_num), show ∀ x : ℝ, x = 0 → (2 : ℝ) ^ x = 1 from fun x h => by rw [h, Real.rpow_zero]]; ring
    have := mul_le_mul_of_nonneg_right ha hp.le
    rw [hone] at this
    linarith

/-- The kernel's codes times their factor are the exponentials times the block's largest probability. -/
theorem quant (u a : ℝ) (ha : 0 < a) :
    (u : EReal) * min ((a : EReal) * FloatOps.exp2 (F := Ideal) (φ := .f32) (((-1 : ℝ) : EReal) - max (expo a) ((-127 : ℝ) : EReal))) ((448 : ℝ) : EReal)
      * FloatOps.exp2 (F := Ideal) (φ := .f32) (max (expo a) ((-127 : ℝ) : EReal) + 1) = ((u * a : ℝ) : EReal) := by
  obtain ⟨e, he, hle⟩ : ∃ e : ℝ, max (expo a) ((-127 : ℝ) : EReal) = (e : EReal) ∧ a * Real.rpow 2 (-1 - e) ≤ 448 := by
    obtain ⟨e, he, hle⟩ := expo_coe a ha
    refine ⟨max e (-127), by rw [he]; exact (EReal.coe_strictMono.monotone.map_max).symm, le_trans (mul_le_mul_of_nonneg_left ?_ ha.le) hle⟩
    exact Real.rpow_le_rpow_of_exponent_le (by norm_num) (sub_le_sub_left (le_max_left _ _) _)
  rw [he, ← EReal.coe_sub, exp2_coe, ← EReal.coe_mul, min_eq_left (EReal.coe_le_coe_iff.mpr hle), ← EReal.coe_one, ← EReal.coe_add, exp2_coe,
    ← EReal.coe_mul, ← EReal.coe_mul]
  congr 1
  have hone : Real.rpow 2 (-1 - e) * Real.rpow 2 (e + 1) = 1 := by
    show (2 : ℝ) ^ (-1 - e) * (2 : ℝ) ^ (e + 1) = 1
    rw [← Real.rpow_add (by norm_num), show ∀ x : ℝ, x = 0 → (2 : ℝ) ^ x = 1 from fun x h => by rw [h, Real.rpow_zero]]; ring
  rw [mul_assoc, mul_assoc, hone, mul_one]

/-- The reference's codes times their factor are the probabilities. -/
theorem quant_ref (p a : ℝ) (hp : 0 ≤ p) (hpa : p ≤ a) (ha : 0 < a) :
    min ((448 : ℝ) : EReal) (max ((-448 : ℝ) : EReal) ((p : EReal) * FloatOps.exp2 (F := Ideal) (φ := .f32) (0 - (expo a + 1))))
      * FloatOps.exp2 (F := Ideal) (φ := .f32) (expo a + 1) = (p : EReal) := by
  obtain ⟨e, he, hle⟩ := expo_coe a ha
  have hp2 : (0 : ℝ) < Real.rpow 2 (-1 - e) := Real.rpow_pos_of_pos (by norm_num) _
  have h1 : p * Real.rpow 2 (-1 - e) ≤ 448 := (mul_le_mul_of_nonneg_right hpa hp2.le).trans hle
  have h0 : -448 ≤ p * Real.rpow 2 (-1 - e) := le_trans (by norm_num) (mul_nonneg hp hp2.le)
  have e1 : (0 : ℝ) - (e + 1) = -1 - e := by ring
  rw [he, ← EReal.coe_one, ← EReal.coe_add, ← EReal.coe_zero, ← EReal.coe_sub, e1, exp2_coe, exp2_coe, ← EReal.coe_mul,
    max_eq_right (EReal.coe_le_coe_iff.mpr h0), min_eq_right (EReal.coe_le_coe_iff.mpr h1), ← EReal.coe_mul]
  congr 1
  have hone : Real.rpow 2 (-1 - e) * Real.rpow 2 (e + 1) = 1 := by
    show (2 : ℝ) ^ (-1 - e) * (2 : ℝ) ^ (e + 1) = 1
    rw [← Real.rpow_add (by norm_num), show ∀ x : ℝ, x = 0 → (2 : ℝ) ^ x = 1 from fun x h => by rw [h, Real.rpow_zero]]; ring
  rw [mul_assoc, hone, mul_one]

end Cert.Scalar
-- ==== Proof.TileAt.lean ====
module

public import proofs.«01_k».proof.Proof.Fill
public import proofs.«01_k».proof.Proof.Scalar
public import Idealize.ShloMosaic.Lib.Pointwise
public import Idealize.ShloMosaic.Lib.Pipeline.ValueKit

@[expose] public section

set_option maxRecDepth 65536
set_option maxHeartbeats 0

noncomputable section

/-! The kernel's functions of a tile, at an index, over the extended reals. -/

namespace Cert.TileAt
open Idealize.ShloMosaic Idealize.SL.Sem Cert.KernelIdeal Cert.KernelIdeal.Gen Cert.Tile Cert.Walk Cert.Fill Cert.Scalar

/-- Row `r` of the 256 is row `r % 8` of the 8. -/
theorem spread_at (x : FVec Ideal S8x256 .f32) (r l : Fin 256) : spread x (ix2 r l) = x (ix2 ⟨r.val % 8, Nat.mod_lt _ (by decide)⟩ l) := by
  refine concatenate_replicate_apply (t := S256x256) (s₁ := S8x256) 0 32 x _ rfl _ _ ?_ ?_
  · rfl
  · intro b hb
    match b with
    | 0 => exact absurd rfl hb
    | 1 => rfl

/-- Row `r` of the 256 is row `r % 8` of the 8 rows of scales. -/
theorem copies_at (x : FVec Ideal S8x128 .f32) (r : Fin 256) (d : Fin 128) : copies x (ix2 r d) = x (ix2 ⟨r.val % 8, Nat.mod_lt _ (by decide)⟩ d) := by
  refine concatenate_replicate_apply (t := S256x128) (s₁ := S8x128) 0 32 x _ rfl _ _ ?_ ?_
  · rfl
  · intro b hb
    match b with
    | 0 => exact absurd rfl hb
    | 1 => rfl

/-- Row `d` of the 128 is row `d / 32` of the 4 rows of scales. -/
theorem lanes_at (y : FVec Ideal S4x256 .f32) (d : Fin 128) (l : Fin 256) : lanes y (ix2 d l) = y (ix2 ⟨d.val / 32, by omega⟩ l) := by
  let f : Fin 4 → FVec Ideal S32x256 .f32 := fun n x => y (ix2 n (x 1))
  refine Eq.trans ?_ (concatenate_ofFn_apply (t := S128x256) (s₁ := S32x256) 0 f concatenates_S32x256_S32x256_S32x256_S32x256_S128x256_d0 rfl 32 rfl (ix2 d l) ⟨d.val / 32, by omega⟩ rfl
    (ix2 ⟨d.val % 32, Nat.mod_lt _ (by decide)⟩ l) rfl ?_)
  · unfold lanes
    have e : ∀ (a b c d a' b' c' d' : FVec Ideal S32x256 .f32), a = a' → b = b' → c = c' → d = d' →
      concatenate S128x256 0 [⟨S32x256, a⟩, ⟨S32x256, b⟩, ⟨S32x256, c⟩, ⟨S32x256, d⟩] concatenates_S32x256_S32x256_S32x256_S32x256_S128x256_d0
       = concatenate S128x256 0 [⟨S32x256, a'⟩, ⟨S32x256, b'⟩, ⟨S32x256, c'⟩, ⟨S32x256, d'⟩] concatenates_S32x256_S32x256_S32x256_S32x256_S128x256_d0 := by
      rintro _ _ _ _ _ _ _ _ rfl rfl rfl rfl; rfl
    refine congrFun (e _ _ _ _ (f 0) (f 1) (f 2) (f 3) ?_ ?_ ?_ ?_) _ <;>
    · funext j
      idx_vars j
      pointwise [f]
  · intro b hb
    match b with
    | 0 => exact absurd rfl hb
    | 1 => rfl

/-- Row `r` of the 256 is row `r % 128` of the 128. -/
theorem twice_at (x : FVec Ideal S128x256 .bf16) (r l : Fin 256) : twice x (ix2 r l) = x (ix2 ⟨r.val % 128, Nat.mod_lt _ (by decide)⟩ l) := by
  refine concatenate_replicate_apply (t := S256x256) (s₁ := S128x256) 0 2 x _ rfl _ _ ?_ ?_
  · rfl
  · intro b hb
    match b with
    | 0 => exact absurd rfl hb
    | 1 => rfl

/-- The scaled queries of a tile, laid down twice. -/
theorem queries_at (q : Vec Ideal S1x1x2048x128 .fp8e4m3) (qs : Vec Ideal S1x1x4x2048 .i8) (i : ℕ) (r l : Fin 256) :
    queries q qs i (ix2 r l) = q (ix4 0 0 ⟨(256 * i + l.val) % 2048, Nat.mod_lt _ (by decide)⟩ ⟨r.val % 128, Nat.mod_lt _ (by decide)⟩)
      * (pow (qs (ix4 0 0 ⟨r.val % 128 / 32, by omega⟩ ⟨(256 * i + l.val) % 2048, Nat.mod_lt _ (by decide)⟩)) * Ideal.ofBits FTy.bf16 15872#16) := by
  unfold queries
  rw [← fold_queries, twice_at]
  pointwise [lanes_at, queryRows, scaleCols, pow]

/-- The keys times their scales and the constant, as stored in the first half. -/
theorem pay4_at (q : Vec Ideal S1x1x256x128 .fp8e4m3) (qs : Vec Ideal S1x1x4x256 .i8) (r : Fin 256) (d : Fin 128) :
    k0_pay4 qs q (ix2 r d) = q (ix4 0 0 r d) * pow (qs (ix4 0 0 ⟨d.val / 32, by omega⟩ r)) * Named.named (F := Ideal) κ "c_frac" (φ := .f32) 1065522158#32 := by
  unfold k0_pay4 k0_pay3 k0_pay2
  simp only [fold_lanes]
  pointwise [lanes_at, pow]

/-- What is left of them, as stored in the second half. -/
theorem pay5_at (q : Vec Ideal S1x1x256x128 .fp8e4m3) (qs : Vec Ideal S1x1x4x256 .i8) (r : Fin 256) (d : Fin 128) :
    k0_pay5 qs q (ix2 r d) = k0_pay4 qs q (ix2 r d) - k0_pay4 qs q (ix2 r d) := by
  unfold k0_pay4 k0_pay5 k0_pay3
  pointwise

/-- The values times their scales. -/
theorem pay7_at (q : Vec Ideal S1x1x256x128 .fp8e4m3) (vs : Vec Ideal S1x1x8x128 .i8) (r : Fin 256) (d : Fin 128) :
    k0_pay7 (k0_pay6 vs) q (ix2 d r) = q (ix4 0 0 r d) * pow (vs (ix4 0 0 ⟨r.val % 8, Nat.mod_lt _ (by decide)⟩ d)) := by
  unfold k0_pay7 k0_pay6
  simp only [fold_copies]
  pointwise [copies_at, pow]

/-- The key scratch in its first half. -/
theorem keys_hi_at (k : Vec Ideal S1x1x2048x128 .fp8e4m3) (ks : Vec Ideal S1x1x4x2048 .i8) (r : Fin 2048) (d : Fin 256) (h : d.val < 128) :
    keys k ks (ix2 r d) = k (ix4 0 0 r ⟨d.val, h⟩) * pow (ks (ix4 0 0 ⟨d.val / 32, by omega⟩ r)) * Named.named (F := Ideal) κ "c_frac" (φ := .f32) 1065522158#32 := by
  have hr : r.val < 2048 := r.isLt
  rw [keys_hi k ks (r.val / 256) (ix2 ⟨r.val % 256, Nat.mod_lt _ (by decide)⟩ ⟨d.val, h⟩) (ix2 r d) (by show r.val = 256 * (r.val / 256) + r.val % 256; omega) rfl, pay4_at]
  unfold queryRows scaleCols
  have e : (⟨(256 * (r.val / 256) + r.val % 256) % 2048, Nat.mod_lt _ (by decide)⟩ : Fin 2048) = r := Fin.ext (by show (256 * (r.val / 256) + r.val % 256) % 2048 = r.val; omega)
  show k (ix4 0 0 ⟨(256 * (r.val / 256) + r.val % 256) % 2048, _⟩ _) * pow (ks (ix4 0 0 _ ⟨(256 * (r.val / 256) + r.val % 256) % 2048, _⟩)) * _ = _
  rw [e]
  rfl

/-- The key scratch in its second half. -/
theorem keys_lo_at (k : Vec Ideal S1x1x2048x128 .fp8e4m3) (ks : Vec Ideal S1x1x4x2048 .i8) (r : Fin 2048) (d : Fin 256) (h : d.val < 128) :
    keys k ks (ix2 r ⟨128 + d.val, by omega⟩) = keys k ks (ix2 r d) - keys k ks (ix2 r d) := by
  have hr : r.val < 2048 := r.isLt
  rw [keys_hi k ks (r.val / 256) (ix2 ⟨r.val % 256, Nat.mod_lt _ (by decide)⟩ ⟨d.val, h⟩) (ix2 r d) (by show r.val = 256 * (r.val / 256) + r.val % 256; omega) rfl]
  rw [keys_lo k ks (r.val / 256) (ix2 ⟨r.val % 256, Nat.mod_lt _ (by decide)⟩ ⟨d.val, h⟩) (ix2 r ⟨128 + d.val, by omega⟩) (by show r.val = 256 * (r.val / 256) + r.val % 256; omega) rfl]
  exact pay5_at _ _ _ _

/-- The value scratch at an index. -/
theorem values_ix (v : Vec Ideal S1x1x2048x128 .fp8e4m3) (vs : Vec Ideal S1x1x64x128 .i8) (r : Fin 2048) (d : Fin 128) :
    values v vs (ix2 d r) = v (ix4 0 0 r d) * pow (vs (ix4 0 0 ⟨r.val / 256 * 8 + r.val % 8, by omega⟩ d)) := by
  have hr : r.val < 2048 := r.isLt
  unfold values
  refine (pay7_at _ _ _ _).trans ?_
  unfold queryRows scaleRows
  have e : (⟨(256 * (r.val / 256) + r.val % 256) % 2048, Nat.mod_lt _ (by decide)⟩ : Fin 2048) = r := Fin.ext (by show (256 * (r.val / 256) + r.val % 256) % 2048 = r.val; omega)
  have e' : (⟨(8 * (r.val / 256) + r.val % 256 % 8) % 64, Nat.mod_lt _ (by decide)⟩ : Fin 64) = ⟨r.val / 256 * 8 + r.val % 8, by omega⟩ := Fin.ext (by show (8 * (r.val / 256) + r.val % 256 % 8) % 64 = r.val / 256 * 8 + r.val % 8; omega)
  show v (ix4 0 0 ⟨(256 * (r.val / 256) + r.val % 256) % 2048, _⟩ _) * pow (vs (ix4 0 0 ⟨(8 * (r.val / 256) + r.val % 256 % 8) % 64, _⟩ _)) = _
  rw [e, e']
  rfl

section
variable (s : FVec Ideal S32x8x256 .f32) (x t a w : FVec Ideal S8x256 .f32) (p : FVec Ideal S1x256 .f32)
variable (j : Fin 32) (k : Fin 8) (l : Fin 256)

/-- A block's largest score. -/
theorem top_at : top s (ix2 k l) = Finset.univ.fold max (Ideal.ofBits FTy.f32 4286578688#32) (fun j => s (ix3 j k l)) := by
  pointwise [top]

/-- A block's exponentials of its scores less its largest. -/
theorem terms_at : terms s (ix3 j k l) = FloatOps.exp2 (F := Ideal) (φ := .f32) (s (ix3 j k l) - top s (ix2 k l)) := by
  pointwise [terms]

/-- A block's sum of exponentials. -/
theorem total_at : total s (ix2 k l) = ∑ j, terms s (ix3 j k l) := by
  pointwise [total]

/-- A stored row is read back. -/
theorem kept_at : kept x (ix2 k l) = x (ix2 k l) := by
  pointwise [kept]

/-- A stored tile is read back. -/
theorem keptAll_at : keptAll s (ix3 j k l) = s (ix3 j k l) := by
  pointwise [keptAll]

/-- A query's largest score over the eight rows. -/
theorem peak_at : peak x (ix2 0 l) = Finset.univ.fold max (Ideal.ofBits FTy.f32 4286578688#32) (fun k => x (ix2 k l)) := by
  pointwise [peak]

/-- 2 to a block's largest score less the query's. -/
theorem weight_at : weight t p (ix2 k l) = FloatOps.exp2 (F := Ideal) (φ := .f32) (t (ix2 k l) - p (ix2 0 l)) := by
  pointwise [weight]

/-- One over the sum of the eight rows. -/
theorem recip_at : recip x (ix2 0 l) = Ideal.div 1 (∑ k, x (ix2 k l)) := by
  pointwise [recip]

/-- A block's weight times that. -/
theorem share_at : share w p (ix2 k l) = w (ix2 k l) * p (ix2 0 l) := by
  pointwise [share]

/-- A block's exponent from its share. -/
theorem expo_at : Tile.expo a (ix2 k l) = max (Ideal.liftRound Int.floor
      (Ideal.log (a (ix2 k l) * Named.named (F := Ideal) κ "inv_max" (φ := .f32) 991054117#32) * Named.named (F := Ideal) κ "log2_e" (φ := .f32) 1069066811#32))
      (Ideal.ofBits FTy.f32 3271426048#32) := by
  pointwise [Tile.expo]

/-- A block's factor down, at most 448. -/
theorem down_at : down a (ix2 k l) = min (a (ix2 k l) * FloatOps.exp2 (F := Ideal) (φ := .f32) (Ideal.ofBits FTy.f32 3212836864#32 - Tile.expo a (ix2 k l)))
      (Ideal.ofBits FTy.f32 1138753536#32) := by
  pointwise [down]

/-- A block's factor up. -/
theorem up_at : up a (ix2 k l) = FloatOps.exp2 (F := Ideal) (φ := .f32) (Tile.expo a (ix2 k l) + 1) := by
  pointwise [up]

/-- The probabilities: an exponential times both factors of its block. -/
theorem probs_at (r : Fin 256) : probs a s (ix2 r l)
    = s (ix3 ⟨r.val / 8, by omega⟩ ⟨r.val % 8, Nat.mod_lt _ (by decide)⟩ l) * down a (ix2 ⟨r.val % 8, Nat.mod_lt _ (by decide)⟩ l)
      * up a (ix2 ⟨r.val % 8, Nat.mod_lt _ (by decide)⟩ l) := by
  rw [← spread_at (up a) r l]
  pointwise [probs]

/-- The comparison of the diagonal tile says that the key does not come after the query. -/
theorem visible (j : Fin 32) (k : Fin 8) (l : Fin 256) :
    (IntOp.cmpi CmpIPredicate.sge (IntOp.subi (BitVec.ofNat 32 l.val) (IntOp.muli (BitVec.ofNat 32 k.val) 32#32)) (BitVec.ofNat 32 j.val) = 1#1)
      = (k.val * 32 + j.val ≤ l.val) := by
  have hj : (BitVec.ofNat 32 j.val).toInt = (j.val : ℤ) := by
    rw [BitVec.toInt_eq_toNat_bmod, BitVec.toNat_ofNat, Nat.mod_eq_of_lt (by omega), Int.bmod_eq_of_le (by omega) (by omega)]
  have hk : (BitVec.ofNat 32 k.val).toInt = (k.val : ℤ) := by
    rw [BitVec.toInt_eq_toNat_bmod, BitVec.toNat_ofNat, Nat.mod_eq_of_lt (by omega), Int.bmod_eq_of_le (by omega) (by omega)]
  have hl' : (BitVec.ofNat 32 l.val).toInt = (l.val : ℤ) := by
    rw [BitVec.toInt_eq_toNat_bmod, BitVec.toNat_ofNat, Nat.mod_eq_of_lt (by omega), Int.bmod_eq_of_le (by omega) (by omega)]
  have hl : (IntOp.subi (BitVec.ofNat 32 l.val) (IntOp.muli (BitVec.ofNat 32 k.val) 32#32)).toInt = (l.val : ℤ) - k.val * 32 := by
    show (BitVec.ofNat 32 l.val - BitVec.ofNat 32 k.val * 32#32).toInt = _
    rw [BitVec.toInt_sub, BitVec.toInt_mul, hk, hl', show (32#32).toInt = 32 from rfl, Int.bmod_eq_of_le (n := k.val * 32) (by omega) (by omega), Int.bmod_eq_of_le (by omega) (by omega)]
  unfold IntOp.cmpi
  simp only [BitVec.sle, hj, hl]
  by_cases h : k.val * 32 + j.val ≤ l.val
  · simp [h, show (j.val : ℤ) ≤ l.val - k.val * 32 by omega]
  · simp [h, show ¬ (j.val : ℤ) ≤ l.val - k.val * 32 by omega]

/-- The diagonal tile, masked after the query. -/
theorem masked_at : masked s (ix3 j k l) = if k.val * 32 + j.val ≤ l.val then s (ix3 j k l) else Named.named (F := Ideal) κ "mask" (φ := .f32) 4048155338#32 := by
  have e : (IntOp.cmpi CmpIPredicate.sge (IntOp.subi (BitVec.ofNat 32 l.val) (IntOp.muli (BitVec.ofNat 32 k.val) 32#32)) (BitVec.ofNat 32 j.val) = 1#1)
      = (k.val * 32 + j.val ≤ l.val) := visible j k l
  pointwise [masked, k0_pay54]
  by_cases h : k.val * 32 + j.val ≤ l.val
  · rw [if_pos h]; exact if_pos (e.mpr h)
  · rw [if_neg h]; exact if_neg (fun hc => h (e.mp hc))

/-- The scores of a tile: a sum over 256 columns. -/
theorem scores_at (q kk : FVec Ideal S256x256 .bf16) : scores q kk (ix3 j k l)
    = ∑ x : Fin 256, kk (ix2 ⟨j.val * 8 + k.val, by omega⟩ x) * q (ix2 x l) := by
  pointwise [scores]

/-- A tile's part of the result. -/
theorem part_at (v : FVec Ideal S128x256 .bf16) (d : Fin 128) : part v a s (ix2 d l) = ∑ x, v (ix2 d x) * probs a s (ix2 x l) := by
  pointwise [part]

/-- The result, transposed. -/
theorem rows_at (v : FVec Ideal S128x256 .f32) (d : Fin 128) : rows v (ix3 0 l d) = v (ix2 d l) := by
  pointwise [rows]
end

end Cert.TileAt
-- ==== Proof.Lane.lean ====
module

public import proofs.«01_k».proof.Proof.TileAt

@[expose] public section

set_option maxRecDepth 65536
set_option maxHeartbeats 400000

noncomputable section

/-! One query of a tile over the reals: its probabilities are the softmax of its scores, whatever their blocks. -/

namespace Cert.Lane
open Idealize.ShloMosaic Idealize.SL.Sem Cert.KernelIdeal Cert.KernelIdeal.Gen Cert.Tile Cert.Scalar Cert.TileAt

/-- The maximum over a finite type, from minus infinity, is the supremum. -/
theorem fold_sup {ι : Type} [Fintype ι] (f : ι → EReal) : Finset.univ.fold max ⊥ f = Finset.univ.sup f := rfl

/-- A sum of reals is a real. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

/-- An extended real that is neither infinity is a real. -/
theorem real_of {y : EReal} (h1 : y ≠ ⊥) (h2 : y ≠ ⊤) : ∃ r : ℝ, y = (r : EReal) := ⟨y.toReal, (EReal.coe_toReal h2 h1).symm⟩

/-- The constant named `inv_max` is 1/448. -/
theorem named_inv_max : Named.named (F := Ideal) κ "inv_max" (φ := .f32) 991054117#32 = ((1 / 448 : ℝ) : EReal) :=
  IdealRules.named_const.ideal_named_scalar _ _ _ _ rfl

/-- The constant named `log2_e` is 1/log 2. -/
theorem named_log2_e : Named.named (F := Ideal) κ "log2_e" (φ := .f32) 1069066811#32 = (((Real.log 2)⁻¹ : ℝ) : EReal) :=
  IdealRules.named_const.ideal_named_scalar _ _ _ _ rfl

/-- The constant named `mask` is minus infinity. -/
theorem named_mask : Named.named (F := Ideal) κ "mask" (φ := .f32) 4048155338#32 = (⊥ : EReal) :=
  IdealRules.named_const.ideal_named_scalar _ _ _ _ rfl

/-- The constant named `c_frac` is 8 · 1/√128 · 1/log 2. -/
theorem named_c_frac : Named.named (F := Ideal) κ "c_frac" (φ := .f32) 1065522158#32 = ((8 * ((Real.sqrt 128)⁻¹ * (Real.log 2)⁻¹) : ℝ) : EReal) :=
  IdealRules.named_const.ideal_named_scalar _ _ _ _ rfl

variable (s : ℕ → FVec Ideal S32x8x256 .f32) (n : ℕ) (l : Fin 256)

/-- The largest score of a block. -/
def B (c : ℕ) (k : Fin 8) : EReal := top (s c) (ix2 k l)

/-- A block's largest score is the supremum of its scores. -/
theorem B_eq (c : ℕ) (k : Fin 8) : B s l c k = Finset.univ.sup fun j => s c (ix3 j k l) := by
  unfold B; rw [top_at, bits_bot, fold_sup]

/-- A score is at most its block's largest. -/
theorem le_B (c : ℕ) (j : Fin 32) (k : Fin 8) : s c (ix3 j k l) ≤ B s l c k := by
  rw [B_eq]; exact Finset.le_sup (f := fun j => s c (ix3 j k l)) (Finset.mem_univ j)

/-- A block's largest score is not plus infinity when no score of it is. -/
theorem B_ne_top (c : ℕ) (k : Fin 8) (h : ∀ j, s c (ix3 j k l) ≠ ⊤) : B s l c k ≠ ⊤ := by
  rw [B_eq]
  exact ne_of_lt ((Finset.sup_lt_iff (by exact bot_lt_top)).mpr fun j _ => lt_top_iff_ne_top.mpr (h j))

/-- The running maximum is at least every block's that it has passed. -/
theorem tops_ge (k : Fin 8) : ∀ n c, c ≤ n → B s l c k ≤ tops s n (ix2 k l) := by
  intro n
  induction n with
  | zero => intro c hc; obtain rfl : c = 0 := by omega
            unfold tops; rw [kept_at]; exact le_rfl
  | succ n ih =>
    intro c hc
    have e : tops s (n + 1) (ix2 k l) = max (tops s n (ix2 k l)) (B s l (n + 1) k) := by
      show max (tops s n (ix2 k l)) (kept (top (s (n + 1))) (ix2 k l)) = _
      rw [kept_at]; rfl
    rw [e]
    rcases Nat.lt_or_ge n c with h | h
    · obtain rfl : c = n + 1 := by omega
      exact le_max_right _ _
    · exact (ih c h).trans (le_max_left _ _)

/-- The running maximum is not plus infinity when no block that it has passed has it. -/
theorem tops_ne_top (k : Fin 8) : ∀ n, (∀ c ≤ n, B s l c k ≠ ⊤) → tops s n (ix2 k l) ≠ ⊤ := by
  intro n
  induction n with
  | zero => intro h; unfold tops; rw [kept_at]; exact h 0 le_rfl
  | succ n ih =>
    intro h
    have e : tops s (n + 1) (ix2 k l) = max (tops s n (ix2 k l)) (B s l (n + 1) k) := by
      show max (tops s n (ix2 k l)) (kept (top (s (n + 1))) (ix2 k l)) = _
      rw [kept_at]; rfl
    rw [e]
    exact ne_of_lt (max_lt (lt_top_iff_ne_top.mpr (ih fun c hc => h c (by omega))) (lt_top_iff_ne_top.mpr (h _ le_rfl)))

/-- The query's largest score is the supremum of the running maxima. -/
theorem peak_eq : peak (tops s n) (ix2 0 l) = Finset.univ.sup fun k => tops s n (ix2 k l) := by rw [peak_at, bits_bot, fold_sup]

/-- A block's largest score is at most the query's. -/
theorem B_le_peak {c : ℕ} (hc : c ≤ n) (k : Fin 8) : B s l c k ≤ peak (tops s n) (ix2 0 l) := by
  rw [peak_eq]
  exact (tops_ge s l k n c hc).trans (Finset.le_sup (f := fun k => tops s n (ix2 k l)) (Finset.mem_univ k))

variable (hs : ∀ c ≤ n, ∀ j k, s c (ix3 j k l) ≠ ⊤) (h0 : ∃ c ≤ n, ∃ j k, s c (ix3 j k l) ≠ ⊥)

include hs h0 in
/-- The query's largest score is a real. -/
theorem peak_real : ∃ M : ℝ, peak (tops s n) (ix2 0 l) = (M : EReal) := by
  refine real_of ?_ ?_
  · obtain ⟨c, hc, j, k, h0⟩ := h0
    exact ne_of_gt (lt_of_lt_of_le (bot_lt_iff_ne_bot.mpr h0) ((le_B s l c j k).trans (B_le_peak s n l hc k)))
  · rw [peak_eq]
    exact ne_of_lt ((Finset.sup_lt_iff (by exact bot_lt_top)).mpr fun k _ => lt_top_iff_ne_top.mpr (tops_ne_top s l k n fun c hc => B_ne_top s l c k fun j => hs c hc j k))

/-- A score's exponential. -/
def X (c : ℕ) (j : Fin 32) (k : Fin 8) : ℝ := E (s c (ix3 j k l))

/-- A block whose largest score is minus infinity has exponentials 0. -/
theorem X_zero {c : ℕ} {k : Fin 8} (h : B s l c k = ⊥) (j : Fin 32) : X s l c j k = 0 := by
  have : s c (ix3 j k l) = ⊥ := le_bot_iff.mp (h ▸ le_B s l c j k)
  unfold X; rw [this, E_bot]

/-- A score's exponential, divided by its block's and multiplied again, is itself. -/
theorem X_div (c : ℕ) (j : Fin 32) (k : Fin 8) : X s l c j k / E (B s l c k) * E (B s l c k) = X s l c j k := by
  by_cases h : B s l c k = ⊥
  · rw [X_zero s l h]; simp
  · exact div_mul_cancel₀ _ (E_pos h).ne'

include hs in
/-- The kernel's exponentials of a block are taken less the block's largest score. -/
theorem terms_real {c : ℕ} (hc : c ≤ n) (j : Fin 32) (k : Fin 8) : terms (s c) (ix3 j k l) = ((X s l c j k / E (B s l c k) : ℝ) : EReal) := by
  rw [terms_at]
  change FloatOps.exp2 (s c (ix3 j k l) - B s l c k) = _
  by_cases h : B s l c k = ⊥
  · have : s c (ix3 j k l) = ⊥ := le_bot_iff.mp (h ▸ le_B s l c j k)
    rw [X_zero s l h, this, h, zero_div]; rfl
  · obtain ⟨b, hb⟩ := real_of h (B_ne_top s l c k fun j => hs c hc j k)
    rw [hb, exp2_sub _ (hs c hc j k), E_coe]; rfl

include hs in
/-- A block's sum of exponentials. -/
theorem total_real {c : ℕ} (hc : c ≤ n) (k : Fin 8) : total (s c) (ix2 k l) = ((∑ j, X s l c j k / E (B s l c k) : ℝ) : EReal) := by
  rw [total_at, ← coe_sum]
  exact Finset.sum_congr rfl fun j _ => terms_real s n l hs hc j k

include hs in
/-- A block's weight is the exponential of its largest score, less the query's largest. -/
theorem weights_real {M : ℝ} (hM : peak (tops s n) (ix2 0 l) = (M : EReal)) {c : ℕ} (hc : c ≤ n) (k : Fin 8) :
    weights s n c (ix2 k l) = ((E (B s l c k) / Real.rpow 2 M : ℝ) : EReal) := by
  unfold weights
  rw [weight_at, kept_at, hM]
  exact exp2_sub _ (B_ne_top s l c k fun j => hs c hc j k) M

include hs in
/-- The running sum of the weighted block sums. -/
theorem sums_real {M : ℝ} (hM : peak (tops s n) (ix2 0 l) = (M : EReal)) (k : Fin 8) : ∀ c, c ≤ n →
    sums s n c (ix2 k l) = ((∑ c' ∈ Finset.range (c + 1), ∑ j, X s l c' j k / Real.rpow 2 M : ℝ) : EReal) := by
  have one : ∀ c ≤ n, mulf (kept (total (s c))) (weights s n c) (ix2 k l) = ((∑ j, X s l c j k / Real.rpow 2 M : ℝ) : EReal) := by
    intro c hc
    show kept (total (s c)) (ix2 k l) * weights s n c (ix2 k l) = _
    rw [kept_at, total_real s n l hs hc, weights_real s n l hs hM hc, ← EReal.coe_mul, Finset.sum_mul]
    refine congrArg _ (Finset.sum_congr rfl fun j _ => ?_)
    rw [← mul_div_assoc, X_div]
  intro c
  induction c with
  | zero => intro hc; rw [Finset.sum_range_one]; exact one 0 hc
  | succ c ih =>
    intro hc
    show sums s n c (ix2 k l) + mulf (kept (total (s (c + 1)))) (weights s n (c + 1)) (ix2 k l) = _
    rw [ih (by omega), one _ hc, Finset.sum_range_succ _ (c + 1), EReal.coe_add]

/-- The softmax's denominator. -/
def L : ℝ := ∑ k, ∑ c ∈ Finset.range (n + 1), ∑ j, X s l c j k

include h0 in
/-- The softmax's denominator is positive. -/
theorem L_pos : 0 < L s n l := by
  have nn : ∀ c j k, 0 ≤ X s l c j k := fun c j k => E_nonneg _
  obtain ⟨c, hc, j, k, h0⟩ := h0
  unfold L
  refine Finset.sum_pos' (fun k _ => Finset.sum_nonneg fun c _ => Finset.sum_nonneg fun j _ => nn c j k) ⟨k, Finset.mem_univ _, ?_⟩
  refine Finset.sum_pos' (fun c _ => Finset.sum_nonneg fun j _ => nn c j k) ⟨c, Finset.mem_range.mpr (by omega), ?_⟩
  exact Finset.sum_pos' (fun j _ => nn c j k) ⟨j, Finset.mem_univ _, E_pos h0⟩

include hs h0 in
/-- A block's share: the exponential of its largest score over the denominator. -/
theorem shares_real {c : ℕ} (hc : c ≤ n) (k : Fin 8) : shares s n c (ix2 k l) = ((E (B s l c k) / L s n l : ℝ) : EReal) := by
  obtain ⟨M, hM⟩ := peak_real s n l hs h0
  have hp : 0 < Real.rpow 2 M := Real.rpow_pos_of_pos (by norm_num) _
  have hL := L_pos s n l h0
  unfold shares
  rw [share_at, weights_real s n l hs hM hc, recip_at]
  have e : ∑ k, sums s n n (ix2 k l) = ((L s n l / Real.rpow 2 M : ℝ) : EReal) := by
    rw [Finset.sum_congr rfl fun k _ => sums_real s n l hs hM k n le_rfl, coe_sum]
    unfold L
    simp only [Finset.sum_div]
  have hne : ((L s n l / Real.rpow 2 M : ℝ) : EReal) ≠ 0 := by
    rw [← EReal.coe_zero]; exact fun h => (div_pos hL hp).ne' (EReal.coe_eq_coe_iff.mp h)
  have ed : Ideal.div 1 ((L s n l / Real.rpow 2 M : ℝ) : EReal) = (((L s n l / Real.rpow 2 M)⁻¹ : ℝ) : EReal) := by
    unfold Ideal.div
    rw [if_neg hne, one_mul, EReal.coe_inv]
  rw [e, ed, ← EReal.coe_mul]
  refine congrArg _ ?_
  field_simp

include hs h0 in
/-- A key's probability is its score's exponential over the denominator. -/
theorem probs_real {c : ℕ} (hc : c ≤ n) (r : Fin 256) : probs (shares s n c) (keptAll (terms (s c))) (ix2 r l)
    = ((X s l c ⟨r.val / 8, by omega⟩ ⟨r.val % 8, Nat.mod_lt _ (by decide)⟩ / L s n l : ℝ) : EReal) := by
  rw [probs_at, keptAll_at, terms_real s n l hs hc, down_at, up_at, expo_at, named_inv_max, named_log2_e, bits_neg_one, bits_neg_127, bits_448, shares_real s n l hs h0 hc]
  generalize (⟨r.val / 8, by omega⟩ : Fin 32) = j
  generalize (⟨r.val % 8, Nat.mod_lt _ (by decide)⟩ : Fin 8) = k
  by_cases h : B s l c k = ⊥
  · rw [X_zero s l h, zero_div, zero_div, EReal.coe_zero, zero_mul, zero_mul]
  · refine (quant _ _ (div_pos (E_pos h) (L_pos s n l h0))).trans (congrArg _ ?_)
    rw [← mul_div_assoc, X_div]

include hs h0 in
/-- What a tile holds at a query: the values, weighed by the probabilities. -/
theorem parts_real (v : ℕ → FVec Ideal S128x256 .bf16) (d : Fin 128) : parts s v n n (ix2 d l)
    = ∑ c ∈ Finset.range (n + 1), ∑ r : Fin 256, v c (ix2 d r) * ((X s l c ⟨r.val / 8, by omega⟩ ⟨r.val % 8, Nat.mod_lt _ (by decide)⟩ / L s n l : ℝ) : EReal) := by
  have one : ∀ c ≤ n, part (v c) (shares s n c) (keptAll (terms (s c))) (ix2 d l)
      = ∑ r : Fin 256, v c (ix2 d r) * ((X s l c ⟨r.val / 8, by omega⟩ ⟨r.val % 8, Nat.mod_lt _ (by decide)⟩ / L s n l : ℝ) : EReal) := by
    intro c hc
    rw [part_at]
    exact Finset.sum_congr rfl fun r _ => by rw [probs_real s n l hs h0 hc]
  have all : ∀ c ≤ n, parts s v n c (ix2 d l)
      = ∑ c' ∈ Finset.range (c + 1), ∑ r : Fin 256, v c' (ix2 d r) * ((X s l c' ⟨r.val / 8, by omega⟩ ⟨r.val % 8, Nat.mod_lt _ (by decide)⟩ / L s n l : ℝ) : EReal) := by
    intro c
    induction c with
    | zero => intro hc; rw [Finset.sum_range_one]; exact one 0 hc
    | succ c ih =>
      intro hc
      show parts s v n c (ix2 d l) + part (v (c + 1)) (shares s n (c + 1)) (keptAll (terms (s (c + 1)))) (ix2 d l) = _
      rw [ih (by omega), one _ hc, Finset.sum_range_succ _ (c + 1)]
  exact all n le_rfl

/-! ## A query without a largest score in the reals -/

variable (hd : (∃ c ≤ n, ∃ j k, s c (ix3 j k l) = ⊤) ∨ ∀ c ≤ n, ∀ j k, s c (ix3 j k l) = ⊥)

include hd in
/-- Every block weighs 0 when the largest score is infinite. -/
theorem weights_dead {c : ℕ} (hc : c ≤ n) (k : Fin 8) : weights s n c (ix2 k l) = 0 := by
  unfold weights
  rw [weight_at, kept_at]
  change Ideal.exp2 (B s l c k - peak (tops s n) (ix2 0 l)) = 0
  rcases hd with ⟨c', hc', j, k', h⟩ | h
  · have : peak (tops s n) (ix2 0 l) = ⊤ := top_le_iff.mp (h ▸ (le_B s l c' j k').trans (B_le_peak s n l hc' k'))
    rw [this, EReal.sub_top]
    rfl
  · have : B s l c k = ⊥ := by
      rw [B_eq]
      exact (Finset.sup_congr rfl fun j _ => h c hc j k).trans (by simp)
    rw [this, EReal.bot_sub]
    rfl

include hd in
/-- Every block has share 0 then. -/
theorem shares_dead {c : ℕ} (hc : c ≤ n) (k : Fin 8) : shares s n c (ix2 k l) = 0 := by
  unfold shares
  rw [share_at, weights_dead s n l hd hc, zero_mul]

include hd in
/-- What a tile holds at such a query is 0. -/
theorem parts_dead (v : ℕ → FVec Ideal S128x256 .bf16) (d : Fin 128) : ∀ c ≤ n, parts s v n c (ix2 d l) = 0 := by
  have one : ∀ c ≤ n, part (v c) (shares s n c) (keptAll (terms (s c))) (ix2 d l) = 0 := by
    intro c hc
    rw [part_at]
    refine Finset.sum_eq_zero fun r _ => ?_
    rw [probs_at, down_at, shares_dead s n l hd hc, bits_448, zero_mul, min_eq_left, mul_zero, zero_mul, mul_zero]
    exact EReal.coe_nonneg.mpr (by norm_num)
  intro c
  induction c with
  | zero => exact one 0
  | succ c ih =>
    intro hc
    show parts s v n c (ix2 d l) + part (v (c + 1)) (shares s n (c + 1)) (keptAll (terms (s (c + 1)))) (ix2 d l) = _
    rw [ih (by omega), one _ hc, add_zero]

end Cert.Lane

end
-- ==== Proof.Meaning.lean ====
module

public import proofs.«01_k».proof.Proof.Lane
public import proofs.«01_k».proof.Proof.Blocks

@[expose] public section

set_option maxRecDepth 65536
set_option maxHeartbeats 400000

noncomputable section

/-! The attention that both programs compute, over the decoded arguments, and that the kernel's head holds it. -/

namespace Cert.Meaning
open Idealize.ShloMosaic Idealize.SL.Sem Cert.KernelIdeal Cert.KernelIdeal.Gen Cert.Tile Cert.Scalar Cert.TileAt Cert.Lane Cert.Blocks Cert.Fill

variable (a0 : Vec Ideal S12x2048x24x128 .i8) (a1 : Vec Ideal S12x2048x24x4 .i8) (a2 : Vec Ideal S12x2048x8x128 .i8) (a3 : Vec Ideal S12x2048x8x4 .i8)
  (a4 : Vec Ideal S12x2048x8x128 .i8) (a5 : Vec Ideal S12x64x8x128 .i8)

/-- A decoded query. -/
def dq (b : Fin 12) (s : Fin 2048) (h : Fin 24) (d : Fin 128) : EReal :=
  Ideal.ofBits .fp8e4m3 (a0 (ix4 b s h d)) * pow (a1 (ix4 b s h ⟨d.val / 32, by omega⟩))

/-- A decoded key. -/
def dk (b : Fin 12) (s : Fin 2048) (g : Fin 8) (d : Fin 128) : EReal :=
  Ideal.ofBits .fp8e4m3 (a2 (ix4 b s g d)) * pow (a3 (ix4 b s g ⟨d.val / 32, by omega⟩))

/-- A decoded value. -/
def dv (b : Fin 12) (s : Fin 2048) (g : Fin 8) (d : Fin 128) : EReal :=
  Ideal.ofBits .fp8e4m3 (a4 (ix4 b s g d)) * pow (a5 (ix4 b ⟨s.val / 32, by omega⟩ g d))

/-- The key head of a query head. -/
def kv (h : Fin 24) : Fin 8 := ⟨h.val / 3, by omega⟩

/-- The score of query `q` of head `h` and key `k`. -/
def score (b : Fin 12) (h : Fin 24) (q k : Fin 2048) : EReal := (∑ d, dq a0 a1 b q h d * dk a2 a3 b k (kv h) d) * (((Real.sqrt 128)⁻¹ : ℝ) : EReal)

/-- A key's weight in the softmax of a query: 0 when it comes after the query. -/
def wt (b : Fin 12) (h : Fin 24) (q k : Fin 2048) : ℝ := wgt q.val (score a0 a1 a2 a3 b h q) k

/-- The attention: the values weighed by the softmax. -/
def att (b : Fin 12) (h : Fin 24) (q : Fin 2048) (d : Fin 128) : EReal :=
  ∑ k, dv a4 a5 b k (kv h) d * ((wt a0 a1 a2 a3 b h q k / ∑ k, wt a0 a1 a2 a3 b h q k : ℝ) : EReal)

/-! ## Sums -/

/-- A sum over `n * m` numbers, by `n` blocks of `m`. -/
theorem sum_blocks {M : Type} [AddCommMonoid M] (f : ℕ → M) (m : ℕ) : ∀ n, ∑ x ∈ Finset.range (n * m), f x = ∑ i ∈ Finset.range n, ∑ j ∈ Finset.range m, f (i * m + j) := by
  intro n
  induction n with
  | zero => simp
  | succ n ih => rw [Nat.succ_mul, Finset.sum_range_add, ih, Finset.sum_range_succ]

/-- 256 rows in the order of the kernel are the 256 keys. -/
theorem sum_places {M : Type} [AddCommMonoid M] (f : ℕ → M) : ∑ r ∈ Finset.range 256, f (r % 8 * 32 + r / 8) = ∑ x ∈ Finset.range 256, f x := by
  rw [show (256 : ℕ) = 32 * 8 from rfl, sum_blocks, show 32 * 8 = 8 * 32 from rfl, sum_blocks, Finset.sum_comm]
  refine Finset.sum_congr rfl fun k hk => Finset.sum_congr rfl fun j hj => ?_
  have := Finset.mem_range.mp hk
  have := Finset.mem_range.mp hj
  congr 1
  omega

/-- The chunks up to `i`, in the order of the kernel, are the keys, when those after them count nothing. -/
theorem sum_chunks {M : Type} [AddCommMonoid M] (f : ℕ → M) (i : ℕ) (hi : i < 8) (hf : ∀ x, 256 * (i + 1) ≤ x → f x = 0) :
    ∑ c ∈ Finset.range (i + 1), ∑ r : Fin 256, f (c * 256 + r.val % 8 * 32 + r.val / 8) = ∑ k : Fin 2048, f k.val := by
  have e : ∀ c ∈ Finset.range (i + 1), (∑ r : Fin 256, f (c * 256 + r.val % 8 * 32 + r.val / 8)) = ∑ x ∈ Finset.range 256, f (c * 256 + x) := by
    intro c _
    rw [← sum_places fun x => f (c * 256 + x), Finset.sum_range]
    refine Finset.sum_congr rfl fun r _ => ?_
    congr 1
    omega
  rw [Finset.sum_congr rfl e, ← sum_blocks f 256 (i + 1), ← Finset.sum_range (n := 2048) f]
  refine Finset.sum_subset (Finset.range_mono (by omega)) fun x _ hx => hf x ?_
  have : ¬ x < (i + 1) * 256 := fun h => hx (Finset.mem_range.mpr h)
  omega

/-- The same, the places of a chunk counted by block and place in it. -/
theorem sum_chunks' {M : Type} [AddCommMonoid M] (f : ℕ → M) (i : ℕ) (hi : i < 8) (hf : ∀ x, 256 * (i + 1) ≤ x → f x = 0) :
    ∑ k : Fin 8, ∑ c ∈ Finset.range (i + 1), ∑ j : Fin 32, f (c * 256 + k.val * 32 + j.val) = ∑ k : Fin 2048, f k.val := by
  rw [Finset.sum_comm, ← Finset.sum_range (n := 2048) f]
  have e : ∀ c ∈ Finset.range (i + 1), (∑ k : Fin 8, ∑ j : Fin 32, f (c * 256 + k.val * 32 + j.val)) = ∑ x ∈ Finset.range 256, f (c * 256 + x) := by
    intro c _
    rw [show (256 : ℕ) = 8 * 32 from rfl, sum_blocks, Finset.sum_range]
    refine Finset.sum_congr rfl fun k _ => ?_
    rw [Finset.sum_range]
    refine Finset.sum_congr rfl fun j _ => ?_
    congr 1
    omega
  rw [Finset.sum_congr rfl e, ← sum_blocks f 256 (i + 1)]
  refine Finset.sum_subset (Finset.range_mono (by omega)) fun x _ hx => hf x ?_
  have : ¬ x < (i + 1) * 256 := fun h => hx (Finset.mem_range.mpr h)
  omega

/-! ## The scores -/

/-- A score of the kernel: the dot product of the decoded query and key, times the scale and 1/ln 2. -/
theorem score_of (q : Vec Ideal S1x1x2048x128 .fp8e4m3) (qs : Vec Ideal S1x1x4x2048 .i8) (k : Vec Ideal S1x1x2048x128 .fp8e4m3) (ks : Vec Ideal S1x1x4x2048 .i8)
    (fq fk : Fin 128 → EReal) (i c : ℕ) (hi : i < 8) (hc : c < 8) (j : Fin 32) (p : Fin 8) (l : Fin 256)
    (hq : ∀ d : Fin 128, q (ix4 0 0 ⟨256 * i + l.val, by omega⟩ d) * pow (qs (ix4 0 0 ⟨d.val / 32, by omega⟩ ⟨256 * i + l.val, by omega⟩)) = fq d)
    (hk : ∀ d : Fin 128, k (ix4 0 0 ⟨256 * c + (j.val * 8 + p.val), by omega⟩ d) * pow (ks (ix4 0 0 ⟨d.val / 32, by omega⟩ ⟨256 * c + (j.val * 8 + p.val), by omega⟩)) = fk d)
    (hf : ∀ d, fk d = ⊥ ∨ ∃ r : ℝ, fk d = (r : EReal)) :
    scores (queries q qs i) (keyRows (keys k ks) (256 * c)) (ix3 j p l)
      = (∑ d, fq d * fk d) * (((Real.sqrt 128)⁻¹ : ℝ) : EReal) * (((Real.log 2)⁻¹ : ℝ) : EReal) := by
  have h2 : 0 < (Real.log 2)⁻¹ := inv_pos.mpr (Real.log_pos (by norm_num))
  have h128 : 0 < (Real.sqrt 128)⁻¹ := inv_pos.mpr (Real.sqrt_pos.mpr (by norm_num))
  have eq : ∀ d : Fin 128, q (ix4 0 0 ⟨256 * i + l.val, by omega⟩ d) * (pow (qs (ix4 0 0 ⟨d.val / 32, by omega⟩ ⟨256 * i + l.val, by omega⟩)) * Ideal.ofBits FTy.bf16 15872#16)
      = fq d * ((1 / 8 : ℝ) : EReal) := by
    intro d
    rw [← mul_assoc, hq, bits_eighth]
  have el : (⟨(256 * i + l.val) % 2048, Nat.mod_lt _ (by decide)⟩ : Fin 2048) = ⟨256 * i + l.val, by omega⟩ := Fin.ext (Nat.mod_eq_of_lt (by omega))
  have er : (⟨(256 * c + (j.val * 8 + p.val)) % 2048, Nat.mod_lt _ (by decide)⟩ : Fin 2048) = ⟨256 * c + (j.val * 8 + p.val), by omega⟩ := Fin.ext (Nat.mod_eq_of_lt (by omega))
  rw [scores_at]
  refine (Fin.sum_univ_add (a := 128) (b := 128) _).trans ?_
  have hi' : ∀ d : Fin 128, keyRows (keys k ks) (256 * c) (ix2 ⟨j.val * 8 + p.val, by omega⟩ (Fin.castAdd 128 d)) * queries q qs i (ix2 (Fin.castAdd 128 d) l)
      = fk d * ((8 * ((Real.sqrt 128)⁻¹ * (Real.log 2)⁻¹) : ℝ) : EReal) * (fq d * ((1 / 8 : ℝ) : EReal)) := by
    intro d
    rw [queries_at, el]
    show keys k ks (ix2 ⟨(256 * c + (j.val * 8 + p.val)) % 2048, _⟩ ⟨d.val, _⟩) * _ = _
    rw [er, keys_hi_at k ks _ ⟨d.val, by omega⟩ d.isLt, named_c_frac]
    have ed : (⟨(Fin.castAdd 128 d).val % 128, Nat.mod_lt _ (by decide)⟩ : Fin 128) = d := Fin.ext (Nat.mod_eq_of_lt d.isLt)
    have ed' : (⟨(Fin.castAdd 128 d).val % 128 / 32, by omega⟩ : Fin 4) = ⟨d.val / 32, by omega⟩ := Fin.ext (by show d.val % 128 / 32 = d.val / 32; omega)
    rw [ed, ed', eq, ← hk]
  have lo' : ∀ d : Fin 128, keyRows (keys k ks) (256 * c) (ix2 ⟨j.val * 8 + p.val, by omega⟩ (Fin.natAdd 128 d)) * queries q qs i (ix2 (Fin.natAdd 128 d) l)
      = (fk d * ((8 * ((Real.sqrt 128)⁻¹ * (Real.log 2)⁻¹) : ℝ) : EReal) - fk d * ((8 * ((Real.sqrt 128)⁻¹ * (Real.log 2)⁻¹) : ℝ) : EReal)) * (fq d * ((1 / 8 : ℝ) : EReal)) := by
    intro d
    rw [queries_at, el]
    show keys k ks (ix2 ⟨(256 * c + (j.val * 8 + p.val)) % 2048, _⟩ ⟨128 + d.val, _⟩) * _ = _
    have e := keys_lo_at k ks ⟨256 * c + (j.val * 8 + p.val), by omega⟩ ⟨d.val, by omega⟩ d.isLt
    rw [er]
    refine (congrArg (· * _) e).trans ?_
    rw [keys_hi_at k ks _ ⟨d.val, by omega⟩ d.isLt, named_c_frac]
    have ed : (⟨(Fin.natAdd 128 d).val % 128, Nat.mod_lt _ (by decide)⟩ : Fin 128) = d := Fin.ext (by show (128 + d.val) % 128 = d.val; omega)
    have ed' : (⟨(Fin.natAdd 128 d).val % 128 / 32, by omega⟩ : Fin 4) = ⟨d.val / 32, by omega⟩ := Fin.ext (by show (128 + d.val) % 128 / 32 = d.val / 32; omega)
    rw [ed, ed', eq, ← hk]
  -- the second half adds nothing: 0 to a real key, and to minus infinity the same again
  have both : ∀ d : Fin 128, fk d * ((8 * ((Real.sqrt 128)⁻¹ * (Real.log 2)⁻¹) : ℝ) : EReal) * (fq d * ((1 / 8 : ℝ) : EReal))
        + (fk d * ((8 * ((Real.sqrt 128)⁻¹ * (Real.log 2)⁻¹) : ℝ) : EReal) - fk d * ((8 * ((Real.sqrt 128)⁻¹ * (Real.log 2)⁻¹) : ℝ) : EReal)) * (fq d * ((1 / 8 : ℝ) : EReal))
      = fq d * fk d * (((Real.sqrt 128)⁻¹ * (Real.log 2)⁻¹ : ℝ) : EReal) := by
    intro d
    have e8 : fk d * ((8 * ((Real.sqrt 128)⁻¹ * (Real.log 2)⁻¹) : ℝ) : EReal) * (fq d * ((1 / 8 : ℝ) : EReal)) = fq d * fk d * (((Real.sqrt 128)⁻¹ * (Real.log 2)⁻¹ : ℝ) : EReal) := by
      rw [mul_mul_mul_comm, ← EReal.coe_mul, mul_comm (fk d)]
      refine congrArg _ (congrArg _ ?_)
      ring
    rw [← e8]
    rcases hf d with h | ⟨r, h⟩
    · rw [h, EReal.bot_mul_coe_of_pos (by positivity), EReal.bot_sub]
      exact bot_mul_double _
    · rw [h, ← EReal.coe_mul, ← EReal.coe_sub, sub_self, EReal.coe_zero, zero_mul, add_zero]
  rw [← Finset.sum_add_distrib, Finset.sum_congr rfl fun d _ => (congrArg₂ (· + ·) (hi' d) (lo' d)).trans (both d),
    ← sum_mul_real _ _ _ (mul_pos h128 h2).le, EReal.coe_mul, mul_assoc]

/-! ## The head -/

/-- The scale bytes are the exponents of normal numbers. -/
structure Decodable : Prop where
  qs : ∀ i, 1 ≤ BitVec.toNat (a1 i) ∧ BitVec.toNat (a1 i) ≤ 254
  ks : ∀ i, 1 ≤ BitVec.toNat (a3 i) ∧ BitVec.toNat (a3 i) ≤ 254
  vs : ∀ i, 1 ≤ BitVec.toNat (a5 i) ∧ BitVec.toNat (a5 i) ≤ 254

/-- The key of row `j * 8 + p` of a chunk. -/
theorem place_block (c j p : ℕ) (hj : j < 32) (hp : p < 8) : place (256 * c + (j * 8 + p)) = c * 256 + p * 32 + j := by unfold place; omega

/-- The key of row `r` of a chunk. -/
theorem place_row (c r : ℕ) (hr : r < 256) : place (256 * c + r) = c * 256 + r % 8 * 32 + r / 8 := by unfold place; omega

/-- The row of value scales that a row of a chunk has is the one of its key. -/
theorem scale_row (c r : ℕ) (hr : r < 256) : (256 * c + r) / 256 * 8 + (256 * c + r) % 8 = (c * 256 + r % 8 * 32 + r / 8) / 32 := by
  obtain ⟨j, k, hj, hk, rfl⟩ : ∃ j k, j < 32 ∧ k < 8 ∧ r = j * 8 + k := ⟨r / 8, r % 8, by omega, by omega, by omega⟩
  rw [show (j * 8 + k) % 8 = k by omega, show (j * 8 + k) / 8 = j by omega, show (256 * c + (j * 8 + k)) / 256 = c by omega,
    show (256 * c + (j * 8 + k)) % 8 = k by omega, show (c * 256 + k * 32 + j) / 32 = c * 8 + k by omega]

variable {a0 a1 a2 a3 a5}

/-- A decoded key is a real, or minus infinity for a NaN. -/
theorem dk_cases (D : Decodable a1 a3 a5) (b : Fin 12) (s : Fin 2048) (g : Fin 8) (d : Fin 128) :
    dk a2 a3 b s g d = ⊥ ∨ ∃ r : ℝ, dk a2 a3 b s g d = (r : EReal) := by
  unfold dk
  rw [pow_eq _ (D.ks _).1 (D.ks _).2]
  rcases code_cases (a2 (ix4 b s g d)) with h | ⟨r, h⟩
  · exact .inl (h ▸ EReal.bot_mul_coe_of_pos (by positivity))
  · exact .inr ⟨_, by rw [h, ← EReal.coe_mul]⟩

/-- The scores of a tile. -/
theorem chunk_of (D : Decodable a1 a3 a5) (b : Fin 12) (h : Fin 24) (i c : ℕ) (hi : i < 8) (hc : c ≤ i) (j : Fin 32) (p : Fin 8) (l : Fin 256) :
    chunk (queryCodes a0 b h) (queryScales a1 b h) (keys (keyCodes a2 b (kv h)) (keyScales a3 b (kv h))) i c (ix3 j p l)
      = if c * 256 + p.val * 32 + j.val ≤ 256 * i + l.val then
          score a0 a1 a2 a3 b h ⟨256 * i + l.val, by omega⟩ ⟨c * 256 + p.val * 32 + j.val, by omega⟩ * (((Real.log 2)⁻¹ : ℝ) : EReal)
        else ⊥ := by
  have hs := score_of (queryCodes a0 b h) (queryScales a1 b h) (keyCodes a2 b (kv h)) (keyScales a3 b (kv h))
    (fun d => dq a0 a1 b ⟨256 * i + l.val, by omega⟩ h d) (fun d => dk a2 a3 b ⟨c * 256 + p.val * 32 + j.val, by omega⟩ (kv h) d)
    i c hi (by omega) j p l (fun d => rfl) (fun d => by
      have e : (⟨c * 256 + p.val * 32 + j.val, by omega⟩ : Fin 2048) = ⟨place (256 * c + (j.val * 8 + p.val)), place_lt (by omega)⟩ :=
        Fin.ext (place_block c j.val p.val j.isLt p.isLt).symm
      rw [e]
      rfl) (fun d => dk_cases D b _ (kv h) d)
  unfold chunk
  by_cases e : c = i
  · rw [if_pos e, masked_at, hs, named_mask]
    exact if_congr (by omega) rfl rfl
  · rw [if_neg e, hs, if_pos (by omega)]
    rfl

/-- A key's weight, the key a number. -/
def wtN (a0 : Vec Ideal S12x2048x24x128 .i8) (a1 : Vec Ideal S12x2048x24x4 .i8) (a2 : Vec Ideal S12x2048x8x128 .i8) (a3 : Vec Ideal S12x2048x8x4 .i8)
    (b : Fin 12) (h : Fin 24) (q : Fin 2048) (k : ℕ) : ℝ := if hk : k < 2048 then wt a0 a1 a2 a3 b h q ⟨k, hk⟩ else 0

/-- A key after the query weighs 0. -/
theorem wtN_zero (b : Fin 12) (h : Fin 24) (q : Fin 2048) (k : ℕ) (hk : q.val < k) : wtN a0 a1 a2 a3 b h q k = 0 := by
  unfold wtN wt
  split
  · exact wgt_after _ _ _ hk
  · rfl

/-- At a key's number it is the key's weight. -/
theorem wtN_fin (b : Fin 12) (h : Fin 24) (q k : Fin 2048) : wtN a0 a1 a2 a3 b h q k.val = wt a0 a1 a2 a3 b h q k := dif_pos k.isLt

/-- The exponentials that the kernel sums are the weights. -/
theorem X_of (D : Decodable a1 a3 a5) (b : Fin 12) (h : Fin 24) (i c : ℕ) (hi : i < 8) (hc : c ≤ i) (j : Fin 32) (p : Fin 8) (l : Fin 256)
    (hb : Bounded (256 * i + l.val) (score a0 a1 a2 a3 b h ⟨256 * i + l.val, by omega⟩)) :
    X (chunk (queryCodes a0 b h) (queryScales a1 b h) (keys (keyCodes a2 b (kv h)) (keyScales a3 b (kv h))) i) l c j p
      = wtN a0 a1 a2 a3 b h ⟨256 * i + l.val, by omega⟩ (c * 256 + p.val * 32 + j.val) := by
  unfold X wtN wt
  rw [chunk_of D b h i c hi hc, dif_pos (by omega)]
  by_cases e : c * 256 + p.val * 32 + j.val ≤ 256 * i + l.val
  · rw [if_pos e, E_score _ (hb _ e)]; exact (wgt_seen hb _ e).symm
  · rw [if_neg e, E_bot]; exact (wgt_after _ _ _ (by show 256 * i + l.val < c * 256 + p.val * 32 + j.val; omega)).symm

/-- A score in base 2 is minus infinity exactly when the score is. -/
theorem mul_log_bot (y : EReal) : y * (((Real.log 2)⁻¹ : ℝ) : EReal) = ⊥ ↔ y = ⊥ := by
  have h2 : 0 < (Real.log 2)⁻¹ := inv_pos.mpr (Real.log_pos (by norm_num))
  induction y with
  | bot => simp [EReal.bot_mul_coe_of_pos h2]
  | top => rw [EReal.top_mul_coe_of_pos h2]
  | coe r => rw [← EReal.coe_mul]; exact iff_of_false (EReal.coe_ne_bot _) (EReal.coe_ne_bot _)

/-- A score in base 2 is plus infinity exactly when the score is. -/
theorem mul_log_top (y : EReal) : y * (((Real.log 2)⁻¹ : ℝ) : EReal) = ⊤ ↔ y = ⊤ := by
  have h2 : 0 < (Real.log 2)⁻¹ := inv_pos.mpr (Real.log_pos (by norm_num))
  induction y with
  | bot => rw [EReal.bot_mul_coe_of_pos h2]
  | top => simp [EReal.top_mul_coe_of_pos h2]
  | coe r => rw [← EReal.coe_mul]; exact iff_of_false (EReal.coe_ne_top _) (EReal.coe_ne_top _)

/-- Every key that a query sees has a place in a tile. -/
theorem seen (k s : ℕ) (h : k ≤ s) : ∃ c ≤ s / 256, ∃ (j : Fin 32) (p : Fin 8), c * 256 + p.val * 32 + j.val = k :=
  ⟨k / 256, Nat.div_le_div_right h, ⟨k % 32, by omega⟩, ⟨k / 32 % 8, by omega⟩, by show k / 256 * 256 + k / 32 % 8 * 32 + k % 32 = k; omega⟩

/-- A head of the kernel holds the attention. -/
theorem head_real (D : Decodable a1 a3 a5) (b : Fin 12) (h : Fin 24) (s : Fin 2048) (d : Fin 128) :
    head (queryCodes a0 b h) (queryScales a1 b h) (keys (keyCodes a2 b (kv h)) (keyScales a3 b (kv h))) (values (keyCodes a4 b (kv h)) (valueScales a5 b (kv h))) (ix3 0 s d)
      = att a0 a1 a2 a3 a4 a5 b h s d := by
  have hi : s.val / 256 < 8 := by omega
  have hsl : (⟨256 * (s.val / 256) + (⟨s.val % 256, Nat.mod_lt _ (by decide)⟩ : Fin 256).val, by show 256 * (s.val / 256) + s.val % 256 < 2048; omega⟩ : Fin 2048) = s :=
    Fin.ext (by show 256 * (s.val / 256) + s.val % 256 = s.val; omega)
  set sc := chunk (queryCodes a0 b h) (queryScales a1 b h) (keys (keyCodes a2 b (kv h)) (keyScales a3 b (kv h))) (s.val / 256) with hsc
  set l : Fin 256 := ⟨s.val % 256, Nat.mod_lt _ (by decide)⟩ with hl
  have cr := fun c hc j p => chunk_of (a0 := a0) (a2 := a2) D b h (s.val / 256) c hi hc j p l
  rw [← hsc] at cr
  by_cases hlive : Live s.val (score a0 a1 a2 a3 b h s)
  case neg =>
    show rows (parts sc (fun c => valueCols (values (keyCodes a4 b (kv h)) (valueScales a5 b (kv h))) (256 * c)) (s.val / 256) (s.val / 256)) (ix3 0 l d) = _
    rw [rows_at, parts_dead sc (s.val / 256) l ?_ _ d _ le_rfl]
    · refine (Finset.sum_eq_zero fun k _ => ?_).symm
      unfold wt
      rw [wgt_dead hlive, zero_div, EReal.coe_zero, mul_zero]
    · by_cases hb : Bounded s.val (score a0 a1 a2 a3 b h s)
      · refine .inr fun c hc j p => ?_
        rw [cr c hc j p]
        split
        · rename_i hk
          rw [mul_log_bot, hsl]
          by_contra hne
          exact hlive ⟨hb, _, by rw [show 256 * (s.val / 256) + l.val = s.val from congrArg Fin.val hsl] at hk; exact hk, hne⟩
        · rfl
      · unfold Bounded at hb
        push Not at hb
        obtain ⟨k, hk, ht⟩ := hb
        obtain ⟨c, hc, j, p, e⟩ := seen k.val s.val hk
        refine .inl ⟨c, hc, j, p, ?_⟩
        rw [cr c hc j p, if_pos (by rw [show 256 * (s.val / 256) + l.val = s.val from congrArg Fin.val hsl, e]; exact hk), mul_log_top, hsl,
          show (⟨c * 256 + p.val * 32 + j.val, by omega⟩ : Fin 2048) = k from Fin.ext e]
        exact ht
  have xr := fun c hc j p => X_of (a0 := a0) (a2 := a2) D b h (s.val / 256) c hi hc j p l (by
    rw [hsl, show 256 * (s.val / 256) + l.val = s.val from congrArg Fin.val hsl]; exact hlive.1)
  rw [← hsc] at xr
  have hL : L sc (s.val / 256) l = ∑ k, wt a0 a1 a2 a3 b h s k := by
    unfold L
    rw [← Finset.sum_congr rfl fun k _ => wtN_fin b h s k, ← sum_chunks' (wtN a0 a1 a2 a3 b h s) (s.val / 256) hi fun x hx => wtN_zero b h s x (by omega)]
    refine Finset.sum_congr rfl fun k _ => Finset.sum_congr rfl fun c hc => Finset.sum_congr rfl fun j _ => ?_
    rw [xr c (by have := Finset.mem_range.mp hc; omega) j k, hsl]
  show rows (parts sc (fun c => valueCols (values (keyCodes a4 b (kv h)) (valueScales a5 b (kv h))) (256 * c)) (s.val / 256) (s.val / 256)) (ix3 0 l d) = _
  rw [rows_at, parts_real sc (s.val / 256) l ?_ ?_, hL]
  · unfold att
    set W := ∑ k, wt a0 a1 a2 a3 b h s k
    let f : ℕ → EReal := fun k => if hk : k < 2048 then dv a4 a5 b ⟨k, hk⟩ (kv h) d * ((wtN a0 a1 a2 a3 b h s k / W : ℝ) : EReal) else 0
    have hf : ∀ k : Fin 2048, f k.val = dv a4 a5 b k (kv h) d * ((wt a0 a1 a2 a3 b h s k / W : ℝ) : EReal) := by
      intro k
      show dite _ _ _ = _
      rw [dif_pos k.isLt, wtN_fin]
    rw [← Finset.sum_congr rfl fun k _ => hf k, ← sum_chunks f (s.val / 256) hi ?_]
    · refine Finset.sum_congr rfl fun c hc => Finset.sum_congr rfl fun r _ => ?_
      have hc' : c ≤ s.val / 256 := by have := Finset.mem_range.mp hc; omega
      rw [xr c hc', hsl]
      show _ = dite _ _ _
      rw [dif_pos (by omega)]
      refine congrArg₂ (· * ·) ?_ ?_
      · have er : (⟨(256 * c + r.val) % 2048, Nat.mod_lt _ (by decide)⟩ : Fin 2048) = ⟨256 * c + r.val, by omega⟩ := Fin.ext (Nat.mod_eq_of_lt (by omega))
        show values _ _ (ix2 d ⟨(256 * c + r.val) % 2048, _⟩) = _
        rw [er, values_ix]
        have e1 : (⟨place (256 * c + r.val), place_lt (by omega)⟩ : Fin 2048) = ⟨c * 256 + r.val % 8 * 32 + r.val / 8, by omega⟩ := Fin.ext (place_row c r.val r.isLt)
        have e2 : (⟨(256 * c + r.val) / 256 * 8 + (256 * c + r.val) % 8, by omega⟩ : Fin 64) = ⟨(c * 256 + r.val % 8 * 32 + r.val / 8) / 32, by omega⟩ := Fin.ext (scale_row c r.val r.isLt)
        show Ideal.ofBits .fp8e4m3 (a4 (ix4 b ⟨place (256 * c + r.val), _⟩ (kv h) d)) * pow (a5 (ix4 b ⟨(256 * c + r.val) / 256 * 8 + (256 * c + r.val) % 8, _⟩ (kv h) d)) = _
        rw [e1, e2]
        rfl
      · rfl
    · intro x hx
      show dite _ _ _ = _
      split
      · rw [wtN_zero b h s x (by omega), zero_div, EReal.coe_zero, mul_zero]
      · rfl
  · intro c hc j k
    rw [cr c hc]
    split
    · rename_i hk
      rw [Ne, mul_log_top, hsl]
      exact hlive.1 _ (by rw [show 256 * (s.val / 256) + l.val = s.val from congrArg Fin.val hsl] at hk; exact hk)
    · exact bot_ne_top
  · obtain ⟨-, k, hk, hne⟩ := hlive
    obtain ⟨c, hc, j, p, e⟩ := seen k.val s.val hk
    refine ⟨c, hc, j, p, ?_⟩
    rw [cr c hc j p, if_pos (by rw [show 256 * (s.val / 256) + l.val = s.val from congrArg Fin.val hsl, e]; exact hk), Ne, mul_log_bot, hsl,
      show (⟨c * 256 + p.val * 32 + j.val, by omega⟩ : Fin 2048) = k from Fin.ext e]
    exact hne

end Cert.Meaning

end
-- ==== Proof.Pre.lean ====
module

public import proofs.«01_k».proof.Proof.Gen.Pre_decodable
public import proofs.«01_k».proof.Proof.Meaning
public import Idealize.ShloMosaic.Lib.ReduceAll

@[expose] public section

set_option maxRecDepth 65536
set_option maxHeartbeats 400000

noncomputable section

/-! The precondition, read at every byte. -/

namespace Cert.Pre
open Idealize.ShloMosaic Cert.Pre_decodable Cert.Meaning

/-- A scalar has one index. -/
instance : Subsingleton S_.Idx := ⟨fun a b => funext fun i => i.elim0⟩

/-- A precondition that holds says of every scale byte that it is a normal number's exponent. -/
theorem decodable (a0 : IVec S12x2048x24x128 8) (a1 : IVec S12x2048x24x4 8) (a2 : IVec S12x2048x8x128 8) (a3 : IVec S12x2048x8x4 8)
    (a4 : IVec S12x2048x8x128 8) (a5 : IVec S12x64x8x128 8) (j : S_.Idx) (h : fn (F := Ideal) a0 a1 a2 a3 a4 a5 j = 1#1) : Decodable a1 a3 a5 := by
  unfold fn fn_part1 at h
  obtain ⟨h, h5⟩ := IntOp.andi_eq_one.1 h
  obtain ⟨h1, h3⟩ := IntOp.andi_eq_one.1 h
  have g1 := fun i => IntOp.andi_eq_one.1 (Host.reduce_andi_all _ _ _ _ j h1 i)
  have g3 := fun i => IntOp.andi_eq_one.1 (Host.reduce_andi_all _ _ _ _ j h3 i)
  have g5 := fun i => IntOp.andi_eq_one.1 (Host.reduce_andi_all _ _ _ _ j h5 i)
  exact ⟨fun i => ⟨IntOp.cmpi_uge.1 (g1 i).1, IntOp.cmpi_ule.1 (g1 i).2⟩, fun i => ⟨IntOp.cmpi_uge.1 (g3 i).1, IntOp.cmpi_ule.1 (g3 i).2⟩,
    fun i => ⟨IntOp.cmpi_uge.1 (g5 i).1, IntOp.cmpi_ule.1 (g5 i).2⟩⟩

end Cert.Pre

end
-- ==== Proof.RefTile.lean ====
module

public import proofs.«01_k».proof.Proof.Gen.ReferenceIdeal.Run

@[expose] public section

set_option maxRecDepth 65536

noncomputable section

/-! The reference's arrays, one step at a time. -/

namespace Cert.RefTile
open Idealize.ShloMosaic Idealize.SL.Sem Cert.ReferenceIdeal Cert.ReferenceIdeal.Gen

variable {F : FTy → Type} [FloatOps F] [Named F]

/-- The scores times the scale, those of later keys −∞. -/
def masked (s : FVec F S288x2048x2048 .f32) (cst : F .f32) : FVec F S288x2048x2048 .f32 :=
  select (cmpi .sle (iota .tc S288x2048x2048 32 [2] iota_S288x2048x2048_d2_w32) (iota .tc S288x2048x2048 32 [1] iota_S288x2048x2048_d1_w32))
    (mulf s (broadcast S288x2048x2048 cst)) (broadcast S288x2048x2048 (Scalar.ofBits .f32 0xFF800000#32))

/-- The largest score of a query. -/
def lead (x : FVec F S288x2048x2048 .f32) : FVec F S288x2048 .f32 :=
  multiReduction .maximumf [2] S288x2048 x 0xFF800000#32 reduces_S288x2048x2048_S288x2048 (.inl rfl) rfl

/-- A query's number, at least −∞. -/
def atLeast (x : FVec F S288x2048 .f32) : FVec F S288x2048 .f32 := maximumf (broadcast S288x2048 (Scalar.ofBits .f32 0xFF800000#32)) x

/-- The number a query's scores are taken less. -/
def top (x : FVec F S288x2048x2048 .f32) : FVec F S288x2048 .f32 := atLeast (lead x)

/-- The exponentials of the scores less a query's number. -/
def terms (x : FVec F S288x2048x2048 .f32) (t : FVec F S288x2048 .f32) : FVec F S288x2048x2048 .f32 :=
  exp (subf x (broadcastTo S288x2048x2048 (shapeCast S288x2048x1 t shapeCasts_S288x2048_S288x2048x1) broadcasts_S288x2048x1_S288x2048x2048))

/-- A query's sum. -/
def total (e : FVec F S288x2048x2048 .f32) : FVec F S288x2048 .f32 :=
  multiReduction .add [2] S288x2048 e 0x00000000#32 reduces_S288x2048x2048_S288x2048 (.inl rfl) rfl

/-- The terms over their query's number. -/
def shares (e : FVec F S288x2048x2048 .f32) (t : FVec F S288x2048 .f32) : FVec F S288x2048x2048 .f32 :=
  divf e (broadcastTo S288x2048x2048 (shapeCast S288x2048x1 t shapeCasts_S288x2048_S288x2048x1) broadcasts_S288x2048x1_S288x2048x2048)

/-- A query's keys in blocks of 32. -/
def blocks (p : FVec F S288x2048x2048 .f32) : FVec F S288x2048x64x32 .f32 := shapeCast S288x2048x64x32 p shapeCasts_S288x2048x2048_S288x2048x64x32

/-- The reference's probabilities by these definitions. -/
theorem soft_eq (s : FVec F S288x2048x2048 .f32) (cst : F .f32) : k0_pay4 s cst
    = blocks (shares (terms (masked s cst) (top (masked s cst))) (total (terms (masked s cst) (top (masked s cst))))) := rfl

/-- The largest probability of a block. -/
def peak (p : FVec F S288x2048x64x32 .f32) : FVec F S288x2048x64x1 .f32 :=
  shapeCast S288x2048x64x1 (multiReduction .maximumf [3] S288x2048x64 p 0xFF800000#32 reduces_S288x2048x64x32_S288x2048x64 (.inl rfl) rfl) shapeCasts_S288x2048x64_S288x2048x64x1

/-- A block's exponent, from its largest probability. -/
def expo (a : FVec F S288x2048x64x1 .f32) : FVec F S288x2048x64x1 .f32 :=
  select (cmpf .oeq a (broadcast S288x2048x64x1 (Scalar.ofBits .f32 0x00000000#32))) (broadcast S288x2048x64x1 (Scalar.ofBits .f32 0x00000000#32))
    (addf (floor (mulf (log (mulf a (broadcast S288x2048x64x1 (Named.named κ "inv_max" 0x3B124925#32))))
      (broadcast S288x2048x64x1 (Named.named κ "log2_e" 0x3FB8AA3B#32)))) (broadcast S288x2048x64x1 (Scalar.ofBits .f32 0x3F800000#32)))

/-- The reference's exponents by these definitions. -/
theorem expo_eq (s : FVec F S288x2048x2048 .f32) (cst : F .f32) : k0_pay5 s cst = expo (peak (k0_pay4 s cst)) := rfl

/-- The codes of the probabilities of a block. -/
def codes (p : FVec F S288x2048x64x32 .f32) (e : FVec F S288x2048x64x1 .f32) : FVec F S288x2048x64x32 .bf16 :=
  extf .bf16 (truncf .fp8e4m3 (minimumf (broadcast S288x2048x64x32 (Scalar.ofBits .f32 0x43E00000#32))
    (maximumf (broadcast S288x2048x64x32 (Scalar.ofBits .f32 0xC3E00000#32))
      (mulf p (broadcastTo S288x2048x64x32 (exp2 (subf (broadcast S288x2048x64x1 (Scalar.ofBits .f32 0x00000000#32)) e)) broadcasts_S288x2048x64x1_S288x2048x64x32))))
    bitsLt_fp8e4m3_f32) bitsLt_fp8e4m3_bf16

/-- The reference's codes by these definitions. -/
theorem codes_eq (s : FVec F S288x2048x2048 .f32) (cst : F .f32) : k0_pay6 s cst = codes (k0_pay4 s cst) (k0_pay5 s cst) := rfl

/-- The scales of the codes. -/
def scales (e : FVec F S288x2048x64x1 .f32) : FVec F S288x2048x64x32 .bf16 :=
  broadcastTo S288x2048x64x32 (truncf .bf16 (exp2 e) bitsLt_bf16_f32) broadcasts_S288x2048x64x1_S288x2048x64x32

/-- The reference's scales by these definitions. -/
theorem scales_eq (s : FVec F S288x2048x2048 .f32) (cst : F .f32) : k0_pay7 s cst = scales (k0_pay5 s cst) := rfl

end Cert.RefTile

end
-- ==== Proof.RefAt.lean ====
module

public import proofs.«01_k».proof.Proof.RefTile
public import proofs.«01_k».proof.Proof.Lane

@[expose] public section

set_option maxRecDepth 65536
set_option maxHeartbeats 400000

noncomputable section

/-! The reference's steps at an index, and one of its queries over the reals. -/

namespace Cert.RefAt
open Idealize.ShloMosaic Idealize.SL.Sem Cert.ReferenceIdeal Cert.ReferenceIdeal.Gen Cert.Scalar Cert.RefTile Cert.Lane

section
variable (s x : FVec Ideal S288x2048x2048 .f32) (t : FVec Ideal S288x2048 .f32) (cst : Ideal .f32) (n : Fin 288) (q k : Fin 2048) (u : Fin 64) (j : Fin 32)
variable (p : FVec Ideal S288x2048x64x32 .f32) (e : FVec Ideal S288x2048x64x1 .f32)

/-- The dot products of decoded queries and keys. -/
theorem scores_at (v0 v12 : Vec Ideal S288x2048x128 .fp8e4m3) (v2 v14 : Vec Ideal S288x2048x128 .i8) : k0_pay3 v0 v2 v12 v14 (ix3 n q k)
    = ∑ d, v0 (ix3 n q d) * FloatOps.exp2 (F := Ideal) (φ := .f32) (FloatOps.sitofp FTy.f32 (IntOp.subi (BitVec.setWidth 32 (v2 (ix3 n q d))) 127#32))
      * (v12 (ix3 n k d) * FloatOps.exp2 (F := Ideal) (φ := .f32) (FloatOps.sitofp FTy.f32 (IntOp.subi (BitVec.setWidth 32 (v14 (ix3 n k d))) 127#32))) := by
  pointwise [k0_pay3]

/-- The decoded values. -/
theorem values_at (v24 : Vec Ideal S288x2048x128 .fp8e4m3) (v26 : Vec Ideal S288x2048x128 .i8) (d : Fin 128) : k0_pay2 v24 v26 (ix3 n k d)
    = v24 (ix3 n k d) * FloatOps.exp2 (F := Ideal) (φ := .f32) (FloatOps.sitofp FTy.f32 (IntOp.subi (BitVec.setWidth 32 (v26 (ix3 n k d))) 127#32)) := by
  pointwise [k0_pay2]

/-- The result: the values weighed by the codes times their scales. -/
theorem out_at (v35 : FVec Ideal S288x2048x128 .bf16) (v80 v83 : FVec Ideal S288x2048x64x32 .bf16) (d : Fin 128) : k0_pay1 v35 v80 v83 (ix3 n q d)
    = ∑ k : Fin 2048, v80 (ix4 n q ⟨k.val / 32, by omega⟩ ⟨k.val % 32, Nat.mod_lt _ (by decide)⟩)
        * v83 (ix4 n q ⟨k.val / 32, by omega⟩ ⟨k.val % 32, Nat.mod_lt _ (by decide)⟩) * v35 (ix3 n k d) := by
  pointwise [k0_pay1]

/-- The comparison of positions says that the key does not come after the query. -/
theorem earlier : (IntOp.cmpi CmpIPredicate.sle (BitVec.ofNat 32 k.val) (BitVec.ofNat 32 q.val) = 1#1) = (k.val ≤ q.val) := by
  unfold IntOp.cmpi
  have hk : (BitVec.ofNat 32 k.val).toInt = k.val := by
    rw [BitVec.toInt_eq_toNat_bmod, BitVec.toNat_ofNat, Nat.mod_eq_of_lt (by omega), Int.bmod_eq_of_le (by omega) (by omega)]
  have hq : (BitVec.ofNat 32 q.val).toInt = q.val := by
    rw [BitVec.toInt_eq_toNat_bmod, BitVec.toNat_ofNat, Nat.mod_eq_of_lt (by omega), Int.bmod_eq_of_le (by omega) (by omega)]
  have e : BitVec.sle (BitVec.ofNat 32 k.val) (BitVec.ofNat 32 q.val) = decide (k.val ≤ q.val) := by
    unfold BitVec.sle; rw [hk, hq]; exact decide_eq_decide.mpr Int.ofNat_le
  show (BitVec.ofBool (BitVec.sle _ _) = 1#1) = _
  rw [e]
  by_cases h : k.val ≤ q.val <;> simp [h]

/-- The masked scores: minus infinity after the query. -/
theorem masked_at : masked s cst (ix3 n q k) = if k.val ≤ q.val then s (ix3 n q k) * cst else ⊥ := by
  have e := earlier q k
  pointwise [masked]
  by_cases h : k.val ≤ q.val
  · rw [if_pos h]; exact if_pos (e.mpr h)
  · rw [if_neg h, ← bits_bot]; exact if_neg (fun hc => h (e.mp hc))

/-- A query's maximum over the keys. -/
theorem lead_at : lead x (ix2 n q) = Finset.univ.fold max ⊥ (fun k => x (ix3 n q k)) := by
  rw [← bits_bot]
  pointwise [lead]

/-- The maximum with minus infinity. -/
theorem atLeast_at : atLeast t (ix2 n q) = max ⊥ (t (ix2 n q)) := by
  rw [← bits_bot]
  pointwise [atLeast]

/-- The exponentials of the scores less their maximum. -/
theorem terms_at : terms x t (ix3 n q k) = Ideal.exp (x (ix3 n q k) - t (ix2 n q)) := by
  pointwise [terms]

/-- Their sum over the keys. -/
theorem total_at : total x (ix2 n q) = ∑ k, x (ix3 n q k) := by
  pointwise [total]

/-- Their quotients by the sum. -/
theorem shares_at : RefTile.shares x t (ix3 n q k) = Ideal.div (x (ix3 n q k)) (t (ix2 n q)) := by
  pointwise [RefTile.shares]

/-- The probabilities in blocks of 32 keys. -/
theorem blocks_at : blocks x (ix4 n q u j) = x (ix3 n q ⟨u.val * 32 + j.val, by omega⟩) := by
  pointwise [blocks]

/-- A block's largest probability. -/
theorem peak_at : peak p (ix4 n q u 0) = Finset.univ.fold max ⊥ (fun j => p (ix4 n q u j)) := by
  rw [← bits_bot]
  pointwise [peak]

/-- A block's exponent, 0 where its largest probability is 0. -/
theorem expo_at : RefTile.expo e (ix4 n q u 0) = if e (ix4 n q u 0) = 0 then 0 else
      Ideal.liftRound Int.floor (Ideal.log (e (ix4 n q u 0) * Named.named (F := Ideal) κ "inv_max" (φ := .f32) 991054117#32)
        * Named.named (F := Ideal) κ "log2_e" (φ := .f32) 1069066811#32) + 1 := by
  pointwise [RefTile.expo]

/-- The probabilities scaled down and clipped. -/
theorem codes_at : codes p e (ix4 n q u j) = min ((448 : ℝ) : EReal) (max ((-448 : ℝ) : EReal) (p (ix4 n q u j) * FloatOps.exp2 (F := Ideal) (φ := .f32) (0 - e (ix4 n q u 0)))) := by
  rw [← bits_448, ← bits_neg_448]
  pointwise [codes]

/-- The power of two that scales them up again. -/
theorem scales_at : scales e (ix4 n q u j) = FloatOps.exp2 (F := Ideal) (φ := .f32) (e (ix4 n q u 0)) := by
  pointwise [scales]

end

/-- The constant named `inv_max` is 1/448. -/
theorem named_inv_max : Named.named (F := Ideal) κ "inv_max" (φ := .f32) 991054117#32 = ((1 / 448 : ℝ) : EReal) :=
  IdealRules.named_const.ideal_named_scalar _ _ _ _ rfl

/-- The constant named `log2_e` is 1/log 2. -/
theorem named_log2_e : Named.named (F := Ideal) κ "log2_e" (φ := .f32) 1069066811#32 = (((Real.log 2)⁻¹ : ℝ) : EReal) :=
  IdealRules.named_const.ideal_named_scalar _ _ _ _ rfl

/-- The constant named `score_scale` is 1/√128. -/
theorem named_score_scale : Named.named (F := Ideal) κ "score_scale" (φ := .f32) 0x3DB504F3#32 = (((Real.sqrt 128)⁻¹ : ℝ) : EReal) :=
  IdealRules.named_const.ideal_named_scalar _ _ _ _ rfl

/-! ## One query -/

variable (s : FVec Ideal S288x2048x2048 .f32) (cst : Ideal .f32) (n : Fin 288) (q : Fin 2048) (x : Fin 2048 → EReal)

variable (hx : ∀ k, s (ix3 n q k) * cst = x k)

include hx in
/-- The masked scores, by the scores `x`. -/
theorem masked_of (k : Fin 2048) : masked s cst (ix3 n q k) = if k.val ≤ q.val then x k else ⊥ := by rw [masked_at, hx]

include hx in
/-- A masked score's exponential is the key's weight, when no score that the query sees is plus infinity. -/
theorem masked_wgt (hb : Bounded q.val x) (k : Fin 2048) : masked s cst (ix3 n q k) ≠ ⊤ ∧ ex (masked s cst (ix3 n q k)) = wgt q.val x k := by
  rw [masked_of s cst n q x hx]
  split
  · rename_i h
    exact ⟨hb k h, (wgt_seen hb k h).symm⟩
  · rename_i h
    exact ⟨bot_ne_top, ex_bot.trans (wgt_after q.val x k (by omega)).symm⟩

/-- The number that the scores are taken less is their supremum. -/
theorem top_eq : top (masked s cst) (ix2 n q) = Finset.univ.sup fun k => masked s cst (ix3 n q k) := by
  unfold top
  rw [atLeast_at, lead_at, fold_sup, max_eq_right bot_le]

include hx in
/-- The largest score of a query is a real. -/
theorem top_real (hl : Live q.val x) : ∃ M : ℝ, top (masked s cst) (ix2 n q) = (M : EReal) := by
  rw [top_eq]
  obtain ⟨hb, k, hk, hne⟩ := hl
  refine real_of (ne_of_gt (lt_of_lt_of_le ?_ (Finset.le_sup (Finset.mem_univ k)))) (ne_of_lt ((Finset.sup_lt_iff bot_lt_top).mpr fun k _ => ?_))
  · rw [masked_of s cst n q x hx, if_pos hk]; exact bot_lt_iff_ne_bot.mpr hne
  · exact lt_top_iff_ne_top.mpr (masked_wgt s cst n q x hx hb k).1

include hx in
/-- The reference's softmax is the weights over their sum. -/
theorem soft_real (hl : Live q.val x) (u : Fin 64) (j : Fin 32) :
    k0_pay4 s cst (ix4 n q u j) = ((wgt q.val x ⟨u.val * 32 + j.val, by omega⟩ / ∑ k, wgt q.val x k : ℝ) : EReal) := by
  obtain ⟨M, hM⟩ := top_real s cst n q x hx hl
  have ht : ∀ k, terms (masked s cst) (top (masked s cst)) (ix3 n q k) = ((wgt q.val x k * Real.exp (-M) : ℝ) : EReal) := by
    intro k
    have h := masked_wgt s cst n q x hx hl.1 k
    rw [terms_at, hM, exp_sub _ h.1, h.2]
  have hp : 0 < (∑ k, wgt q.val x k) * Real.exp (-M) := mul_pos (wgt_pos hl) (Real.exp_pos _)
  have hne : (((∑ k, wgt q.val x k) * Real.exp (-M) : ℝ) : EReal) ≠ 0 := by
    rw [← EReal.coe_zero]; exact fun h => hp.ne' (EReal.coe_eq_coe_iff.mp h)
  rw [soft_eq, blocks_at, shares_at, total_at, Finset.sum_congr rfl fun k _ => ht k, coe_sum, ht, ← Finset.sum_mul]
  unfold Ideal.div
  rw [if_neg hne, ← EReal.coe_inv, ← EReal.coe_mul]
  refine congrArg _ ?_
  have := (wgt_pos hl).ne'
  have := (Real.exp_pos (-M)).ne'
  field_simp

include hx in
/-- Without a largest score in the reals every probability is minus infinity. -/
theorem soft_dead (hl : ¬ Live q.val x) (u : Fin 64) (j : Fin 32) : k0_pay4 s cst (ix4 n q u j) = ⊥ := by
  have ht : ∀ k, terms (masked s cst) (top (masked s cst)) (ix3 n q k) = 0 := by
    intro k
    rw [terms_at, top_eq]
    by_cases hb : Bounded q.val x
    · have : masked s cst (ix3 n q k) = ⊥ := by
        rw [masked_of s cst n q x hx]
        split
        · rename_i hk
          by_contra hne
          exact hl ⟨hb, k, hk, hne⟩
        · rfl
      rw [this, EReal.bot_sub]
      rfl
    · have : (Finset.univ.sup fun k => masked s cst (ix3 n q k)) = ⊤ := by
        unfold Bounded at hb
        push Not at hb
        obtain ⟨k', hk, h⟩ := hb
        refine top_le_iff.mp (le_trans (le_of_eq ?_) (Finset.le_sup (Finset.mem_univ k')))
        rw [masked_of s cst n q x hx, if_pos hk, h]
      rw [this, EReal.sub_top]
      rfl
  rw [soft_eq, blocks_at, shares_at, total_at, Finset.sum_congr rfl fun k _ => ht k, ht, Finset.sum_const_zero]
  unfold Ideal.div
  rw [if_pos rfl, if_neg (lt_irrefl _)]

include hx in
/-- Rounding a block to codes and scaling back gives its probabilities, or 0 where they are minus infinity. -/
theorem quant_real (u : Fin 64) (j : Fin 32) : k0_pay6 s cst (ix4 n q u j) * k0_pay7 s cst (ix4 n q u j)
    = ((wgt q.val x ⟨u.val * 32 + j.val, by omega⟩ / ∑ k, wgt q.val x k : ℝ) : EReal) := by
  have ha : peak (k0_pay4 s cst) (ix4 n q u 0) = Finset.univ.sup fun j : Fin 32 => k0_pay4 s cst (ix4 n q u j) := by rw [peak_at, fold_sup]
  rw [codes_eq, scales_eq, codes_at, scales_at, expo_eq, RefAt.expo_at, named_inv_max, named_log2_e]
  by_cases hl : Live q.val x
  case neg =>
    have hA : peak (k0_pay4 s cst) (ix4 n q u 0) = ⊥ := by
      rw [ha]
      exact (Finset.sup_congr rfl fun j _ => soft_dead s cst n q x hx hl u j).trans (by simp)
    have h1 : (⊥ : EReal) * ((1 / 448 : ℝ) : EReal) = ⊥ := EReal.bot_mul_coe_of_pos (by norm_num)
    have h2 : (⊥ : EReal) * (((Real.log 2)⁻¹ : ℝ) : EReal) = ⊥ := EReal.bot_mul_coe_of_pos (inv_pos.mpr (Real.log_pos (by norm_num)))
    have h3 : Ideal.log ⊥ = ⊥ := rfl
    have h4 : Ideal.liftRound Int.floor ⊥ = ⊥ := rfl
    have h5 : FloatOps.exp2 (F := Ideal) (φ := .f32) (⊥ : EReal) = (0 : EReal) := rfl
    rw [hA, if_neg EReal.bot_ne_zero, h1, h3, h2, h4, EReal.bot_add, h5, mul_zero, wgt_dead hl, zero_div]
    rfl
  have hp : ∀ j : Fin 32, 0 ≤ wgt q.val x ⟨u.val * 32 + j.val, by omega⟩ / ∑ k, wgt q.val x k := fun j => div_nonneg (wgt_nonneg _ x _) (wgt_pos hl).le
  have hle : ∀ j : Fin 32, k0_pay4 s cst (ix4 n q u j) ≤ peak (k0_pay4 s cst) (ix4 n q u 0) := fun j => by
    rw [ha]; exact Finset.le_sup (f := fun j : Fin 32 => k0_pay4 s cst (ix4 n q u j)) (Finset.mem_univ j)
  obtain ⟨a, hA⟩ : ∃ a : ℝ, peak (k0_pay4 s cst) (ix4 n q u 0) = (a : EReal) := by
    refine real_of (ne_of_gt (lt_of_lt_of_le ?_ (hle 0))) ?_
    · rw [soft_real s cst n q x hx hl]; exact EReal.bot_lt_coe _
    · rw [ha]
      refine ne_of_lt ((Finset.sup_lt_iff bot_lt_top).mpr fun k _ => ?_)
      rw [soft_real s cst n q x hx hl]; exact EReal.coe_lt_top _
  have hle' : ∀ j : Fin 32, wgt q.val x ⟨u.val * 32 + j.val, by omega⟩ / ∑ k, wgt q.val x k ≤ a := fun j => by
    have := hle j
    rw [hA, soft_real s cst n q x hx hl] at this
    exact EReal.coe_le_coe_iff.mp this
  rw [hA, soft_real s cst n q x hx hl]
  generalize hP : wgt q.val x ⟨u.val * 32 + j.val, by omega⟩ / ∑ k, wgt q.val x k = P
  have h0 : 0 ≤ P := hP ▸ hp j
  have h1 : P ≤ a := hP ▸ hle' j
  by_cases hz : a = 0
  · have : P = 0 := le_antisymm (hz ▸ h1) h0
    rw [this, EReal.coe_zero, zero_mul, max_eq_right, min_eq_right, zero_mul]
    · rw [← EReal.coe_zero]; exact EReal.coe_le_coe_iff.mpr (by norm_num)
    · rw [← EReal.coe_zero]; exact EReal.coe_le_coe_iff.mpr (by norm_num)
  · have hne : (a : EReal) ≠ 0 := by rw [← EReal.coe_zero]; exact fun h => hz (EReal.coe_eq_coe_iff.mp h)
    rw [if_neg hne]
    exact quant_ref P a h0 h1 (lt_of_le_of_ne (h0.trans h1) (Ne.symm hz))

end Cert.RefAt

end
-- ==== Proof.RefEntry.lean ====
module

public import proofs.«01_k».proof.Proof.Gen.ReferenceIdeal.Run
public import Idealize.ShloMosaic.Lib.Pointwise
public import Idealize.ShloMosaic.Lib.Pipeline.ValueKit

@[expose] public section

set_option maxRecDepth 65536
set_option maxHeartbeats 400000

noncomputable section

/-! The reference's operands, of the arguments, and its region and result, of the operands. -/

namespace Cert.RefEntry
open Idealize.ShloMosaic Idealize.ShloMosaic.StableHlo Idealize.SL.Sem Cert.ReferenceIdeal Cert.ReferenceIdeal.Gen

section
variable {F : FTy → Type} [FloatOps F] [Named F]
variable (m : (ℓ : Loc nD τ sig) → Buf (Elt F) ℓ) (c : Dev nD)

/-- Every window starts at 0: the one step sees whole arrays. -/
theorem idx : ∀ t : Fin cfg0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) :=
  (by decide +kernel : ∀ t : Fin grid0.N, _)

/-- The block of query codes is the whole array. -/
theorem blk0 (t : Fin cfg0.N) : iblk m c 0 t = V m c main_v6 := by
  funext y
  blk_ext [iblk, idx t]

/-- The block of query scales is the whole array. -/
theorem blk1 (t : Fin cfg0.N) : iblk m c 1 t = V m c main_v12 := by
  funext y
  blk_ext [iblk, idx t]

/-- The block of key codes is the whole array. -/
theorem blk2 (t : Fin cfg0.N) : iblk m c 2 t = V m c main_v16 := by
  funext y
  blk_ext [iblk, idx t]

/-- The block of key scales is the whole array. -/
theorem blk3 (t : Fin cfg0.N) : iblk m c 3 t = V m c main_v22 := by
  funext y
  blk_ext [iblk, idx t]

/-- The block of value codes is the whole array. -/
theorem blk4 (t : Fin cfg0.N) : iblk m c 4 t = V m c main_v26 := by
  funext y
  blk_ext [iblk, idx t]

/-- The block of value scales is the whole array. -/
theorem blk5 (t : Fin cfg0.N) : iblk m c 5 t = V m c main_v32 := by
  funext y
  blk_ext [iblk, idx t]

/-- A load of a whole array of codes is the array. -/
theorem ld_codes (X : Vec F S288x2048x128 .fp8e4m3) : View.ld X r0_0 = X := View.ld_unit_zero (by funext a; fin_cases a <;> rfl) _ X

/-- A load of a whole array of scales is the array. -/
theorem ld_scales (X : Vec F S288x2048x128 .i8) : View.ld X r0_0 = X := View.ld_unit_zero (by funext a; fin_cases a <;> rfl) _ X

/-- What the region leaves: its last product, of the widened values and of the codes and the scales of the probabilities. -/
theorem region : Value.reg_main_v33 m c = k0_pay1 (k0_pay2 (V m c main_v26) (V m c main_v32))
    (k0_pay6 (k0_pay3 (V m c main_v6) (V m c main_v12) (V m c main_v16) (V m c main_v22)) (Named.named κ "score_scale" 0x3DB504F3#32))
    (k0_pay7 (k0_pay3 (V m c main_v6) (V m c main_v12) (V m c main_v16) (V m c main_v22)) (Named.named κ "score_scale" 0x3DB504F3#32)) := by
  rw [← blk0 m c t0_0, ← blk1 m c t0_0, ← blk2 m c t0_0, ← blk3 m c t0_0, ← blk4 m c t0_0, ← blk5 m c t0_0]
  unfold Value.reg_main_v33
  refine (dats m 0 c).arrAt_eq_of_after_last 6 t0_0 (by decide +kernel) _ fun j => ?_
  blk_simp
  rw [after0_6]
  frame_out
  unfold k0_pay8
  rw [ld_codes, ld_scales, ld_codes, ld_scales]

end

variable (m : (ℓ : Loc nD τ sig) → Buf (Elt Ideal) ℓ) (c : Dev nD) (b : Fin 12) (h : Fin 24) (s : Fin 2048) (d : Fin 128)

/-- The row of batch `b` and head `h`. -/
def row (b : Fin 12) (h : Fin 24) : Fin 288 := ⟨b.val * 24 + h.val, by omega⟩

/-- The query codes of a head at an index, by the argument. -/
theorem op0 : (V m c main_v6 : Vec Ideal S288x2048x128 .fp8e4m3) (ix3 (row b h) s d) = Ideal.ofBits .fp8e4m3 ((m (c.tc.loc main_arg0) : Vec Ideal S12x2048x24x128 .i8) (ix4 b s h d)) := by
  unfold V V0
  simp only [hostOps0, List.flatten_cons, List.flatten_nil, List.append_nil, List.cons_append, List.nil_append]
  after_results
  pointwise [row]

/-- The query scales of a head at an index, by the argument. -/
theorem op1 : (V m c main_v12 : Vec Ideal S288x2048x128 .i8) (ix3 (row b h) s d) = (m (c.tc.loc main_arg1) : Vec Ideal S12x2048x24x4 .i8) (ix4 b s h ⟨d.val / 32, by omega⟩) := by
  unfold V V0
  simp only [hostOps0, List.flatten_cons, List.flatten_nil, List.append_nil, List.cons_append, List.nil_append]
  after_results
  pointwise [row]

/-- The key codes of a head at an index, by the argument. -/
theorem op2 : (V m c main_v16 : Vec Ideal S288x2048x128 .fp8e4m3) (ix3 (row b h) s d)
    = Ideal.ofBits .fp8e4m3 ((m (c.tc.loc main_arg2) : Vec Ideal S12x2048x8x128 .i8) (ix4 b s ⟨h.val / 3, by omega⟩ d)) := by
  unfold V V0
  simp only [hostOps0, List.flatten_cons, List.flatten_nil, List.append_nil, List.cons_append, List.nil_append]
  after_results
  pointwise [row]

/-- The key scales of a head at an index, by the argument. -/
theorem op3 : (V m c main_v22 : Vec Ideal S288x2048x128 .i8) (ix3 (row b h) s d)
    = (m (c.tc.loc main_arg3) : Vec Ideal S12x2048x8x4 .i8) (ix4 b s ⟨h.val / 3, by omega⟩ ⟨d.val / 32, by omega⟩) := by
  unfold V V0
  simp only [hostOps0, List.flatten_cons, List.flatten_nil, List.append_nil, List.cons_append, List.nil_append]
  after_results
  pointwise [row]

/-- The value codes of a head at an index, by the argument. -/
theorem op4 : (V m c main_v26 : Vec Ideal S288x2048x128 .fp8e4m3) (ix3 (row b h) s d)
    = Ideal.ofBits .fp8e4m3 ((m (c.tc.loc main_arg4) : Vec Ideal S12x2048x8x128 .i8) (ix4 b s ⟨h.val / 3, by omega⟩ d)) := by
  unfold V V0
  simp only [hostOps0, List.flatten_cons, List.flatten_nil, List.append_nil, List.cons_append, List.nil_append]
  after_results
  pointwise [row]

/-- The value scales of a head at an index, by the argument. -/
theorem op5 : (V m c main_v32 : Vec Ideal S288x2048x128 .i8) (ix3 (row b h) s d)
    = (m (c.tc.loc main_arg5) : Vec Ideal S12x64x8x128 .i8) (ix4 b ⟨s.val / 32, by omega⟩ ⟨h.val / 3, by omega⟩ d) := by
  unfold V V0
  simp only [hostOps0, List.flatten_cons, List.flatten_nil, List.append_nil, List.cons_append, List.nil_append]
  after_results
  pointwise [row]

/-- The result at batch `b`, query `s` and lane `d` of head `h` is the region's array in that row. -/
theorem result (x : Vec Ideal S288x2048x128 .bf16) : (shapeCast S12x2048x3072 (transpose S12x2048x24x128 [0, 2, 1, 3]
      (shapeCast S12x24x2048x128 x shapeCasts_S288x2048x128_S12x24x2048x128) transposes_S12x24x2048x128_S12x2048x24x128_0_2_1_3) shapeCasts_S12x2048x24x128_S12x2048x3072 : Vec Ideal S12x2048x3072 .bf16)
      (ix3 b s ⟨h.val * 128 + d.val, by omega⟩) = x (ix3 (row b h) s d) := by
  pointwise [row]

end Cert.RefEntry

end
-- ==== Proof.RefMeaning.lean ====
module

public import proofs.«01_k».proof.Proof.RefAt
public import proofs.«01_k».proof.Proof.RefEntry
public import proofs.«01_k».proof.Proof.Meaning

@[expose] public section

set_option maxRecDepth 65536
set_option maxHeartbeats 400000

noncomputable section

/-! The reference's result is the attention over the decoded arguments. -/

namespace Cert.RefMeaning
open Idealize.ShloMosaic Idealize.SL.Sem Cert.ReferenceIdeal Cert.ReferenceIdeal.Gen Cert.Scalar Cert.RefEntry Cert.RefAt Cert.Meaning

variable (m : (ℓ : Loc nD τ sig) → Buf (Elt Ideal) ℓ) (c : Dev nD)

/-- The precondition, of the reference's arguments. -/
abbrev Dec : Prop := Decodable (m (c.tc.loc main_arg1)) (m (c.tc.loc main_arg3)) (m (c.tc.loc main_arg5))

variable (D : Dec m c) (b : Fin 12) (h : Fin 24)

include D in
/-- The reference's scores are those of the decoded queries and keys. -/
theorem score_eq (q k : Fin 2048) : k0_pay3 (V m c main_v6) (V m c main_v12) (V m c main_v16) (V m c main_v22) (ix3 (row b h) q k)
      * Named.named (F := Ideal) κ "score_scale" (φ := .f32) 0x3DB504F3#32
    = score (m (c.tc.loc main_arg0)) (m (c.tc.loc main_arg1)) (m (c.tc.loc main_arg2)) (m (c.tc.loc main_arg3)) b h q k := by
  rw [scores_at, named_score_scale]
  unfold score
  refine congrArg (· * _) (Finset.sum_congr rfl fun d _ => ?_)
  rw [op0, op1, op2, op3, pow_ref _ (D.qs _).1 (D.qs _).2, pow_ref _ (D.ks _).1 (D.ks _).2]
  rfl

include D in
/-- The reference's result, before its heads are put side by side, is the attention. -/
theorem result_eq (q : Fin 2048) (d : Fin 128) : Value.reg_main_v33 m c (ix3 (row b h) q d)
    = att (m (c.tc.loc main_arg0)) (m (c.tc.loc main_arg1)) (m (c.tc.loc main_arg2)) (m (c.tc.loc main_arg3)) (m (c.tc.loc main_arg4)) (m (c.tc.loc main_arg5)) b h q d := by
  rw [region, out_at]
  unfold att
  refine (Finset.sum_congr (M := EReal) rfl fun k _ => ?_)
  rw [quant_real _ _ (row b h) q _ (score_eq m c D b h q), values_at, op4, op5, pow_ref _ (D.vs _).1 (D.vs _).2, mul_comm]
  have e : (⟨k.val / 32 * 32 + k.val % 32, by omega⟩ : Fin 2048) = k := Fin.ext (Nat.div_add_mod' _ _)
  refine congrArg₂ (· * ·) rfl ?_
  show (((wgt q.val _ ⟨k.val / 32 * 32 + k.val % 32, _⟩ / _ : ℝ)) : EReal) = _
  rw [e]
  rfl

end Cert.RefMeaning

end
-- ==== Proof.Equation.lean ====
module

public import proofs.«01_k».proof.Defs
public import proofs.«01_k».proof.Proof.Blocks
public import proofs.«01_k».proof.Proof.Pre
public import proofs.«01_k».proof.Proof.RefMeaning

@[expose] public section

set_option maxRecDepth 65536
set_option maxHeartbeats 400000

noncomputable section

/-! The kernel's result and the reference's are the same array of extended reals. -/

namespace Cert.Equation
open Idealize.ShloMosaic Idealize.SL.Sem Cert.Meaning

/-- At every index of the result the kernel and the reference hold the same value, if their arguments agree and are decodable. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_decodable m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (b : Fin 12) (s : Fin 2048) (h : Fin 24) (d : Fin 128) :
    Cert.ReferenceIdeal.Value.reg_main_v33 m' c (ix3 (RefEntry.row b h) s d)
      = (Cert.KernelIdeal.Value.G6 m c : Vec Ideal Cert.KernelIdeal.S12x2048x3072 .bf16) (ix3 b s ⟨h.val * 128 + d.val, by omega⟩) := by
  have D : Decodable (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg5)) :=
    Pre.decodable _ _ _ _ _ _ (fun i => i.elim0) (congrFun (hpre c) _)
  have D' : RefMeaning.Dec m' c := by
    unfold RefMeaning.Dec
    rw [h1, h3, h5]
    exact D
  rw [RefMeaning.result_eq m' c D' b h s d, Blocks.result_at, h0, h1, h2, h3, h4, h5]
  exact (head_real _ D b h s d).symm

/-- The kernel and the reference return the same array over the extended reals, from memories that agree on decodable arguments. -/
theorem algebraic : Cert.algebraic_KernelIdeal_ReferenceIdeal_pre_decodable := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine funext fun (i : Cert.KernelIdeal.S12x2048x3072.Idx) => ?_
  have l : (i 2).val < 3072 := (i 2).isLt
  have e : i = ix3 (i 0) (i 1) (⟨(⟨(i 2).val / 128, by omega⟩ : Fin 24).val * 128 + (⟨(i 2).val % 128, by omega⟩ : Fin 128).val, by omega⟩ : Fin 3072) := by
    funext a
    fin_cases a
    · rfl
    · rfl
    · exact Fin.ext (Nat.div_add_mod' _ _).symm
  rw [e]
  exact (RefEntry.result _ _ _ _ _).trans (result_eq m m' c hpre h0 h1 h2 h3 h4 h5 _ _ _ _)

end Cert.Equation

end
-- ==== Proof.lean ====
module

public import proofs.«01_k».proof.Defs
public import proofs.«01_k».proof.Proof.Names
public import proofs.«01_k».proof.Proof.Equation
public import proofs.«01_k».proof.Proof.Gen.Kernel.Frame
public import proofs.«01_k».proof.Proof.Gen.KernelIdeal.Frame
public import proofs.«01_k».proof.Proof.Gen.Reference.Frame
public import proofs.«01_k».proof.Proof.Gen.ReferenceIdeal.Frame

/-!
The claims, assembled.
-/

@[expose] public section

noncomputable section

namespace Cert.Proof

open Idealize.ShloMosaic Idealize.SL.Sem Cert.Kernel

/-- Every program runs to its end from any memory and keeps its arguments, the named constants stand for the words they
replace, and over the extended reals the kernel and the reference return the same array whenever the arguments are decodable. -/
theorem claim : Cert.Claim :=
  ⟨Cert.Kernel.Gen.facts, Cert.KernelIdeal.Gen.facts, Cert.ReferenceIdeal.Gen.facts, Cert.Reference.Gen.facts, Cert.Pre_decodable.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, fun m ρ _ => Cert.Reference.Gen.frame m ρ,
    Cert.Names.preserves_kernel, Cert.Names.preserves_reference, Cert.Equation.algebraic⟩

end Cert.Proof

end
